-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ties_agree [hPre_ties_agree : Cert.Pre_ties_agree.Facts] (m : (ℓ : Loc Cert.KernelIdeal.nD Cert.KernelIdeal.τ Cert.KernelIdeal.sig) → Buf (Elt Ideal) ℓ) : Prop :=
  ∀ c : Dev Cert.KernelIdeal.nD,
    (Cert.Pre_ties_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ties_agree [hPre_ties_agree : Cert.Pre_ties_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ties_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ties_agree [hKernelIdeal : Cert.KernelIdeal.Facts] [hPre_ties_agree : Cert.Pre_ties_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ties_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ties_agree [hReferenceIdeal : Cert.ReferenceIdeal.Facts] [hPre_ties_agree : Cert.Pre_ties_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ties_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ties_agree [hKernelIdeal : Cert.KernelIdeal.Facts] [hReferenceIdeal : Cert.ReferenceIdeal.Facts] [hPre_ties_agree : Cert.Pre_ties_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ties_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ties_agree : Cert.Pre_ties_agree.Facts),
    quiescent_Kernel (hKernel := hKernel)
    ∧ quiescent_KernelIdeal (hKernelIdeal := hKernelIdeal)
    ∧ quiescent_KernelIdeal_pre_ties_agree (hKernelIdeal := hKernelIdeal) (hPre_ties_agree := hPre_ties_agree)
    ∧ quiescent_ReferenceIdeal (hReferenceIdeal := hReferenceIdeal)
    ∧ quiescent_ReferenceIdeal_pre_ties_agree (hReferenceIdeal := hReferenceIdeal) (hPre_ties_agree := hPre_ties_agree)
    ∧ preserves_Kernel_KernelIdeal
    ∧ algebraic_KernelIdeal_ReferenceIdeal_pre_ties_agree (hKernelIdeal := hKernelIdeal) (hReferenceIdeal := hReferenceIdeal) (hPre_ties_agree := hPre_ties_agree)
-- ==== Pre_ties_agree.lean ====
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S1 : Shape := ⟨1, ![1]⟩
abbrev S2 : Shape := ⟨1, ![2]⟩
abbrev S1x1 : Shape := ⟨2, ![1, 1]⟩

class Facts : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  natLt_32_64 : 32 < 64
  bcast_S1x1_S4096x4096_0_1 : S1x1.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)

variable [Facts]

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_where_0 {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_threefry2x32_part9 {F : FTy → Type} [FloatOps F] (arg0 : IVec S_ 32) (v163 : IVec S4096x4096 32) (v169 : IVec S4096x4096 32) (v170 : IVec S4096x4096 32) : IVec S4096x4096 32 × IVec S4096x4096 32 :=
  let v171 : IVec S4096x4096 32 := addi v163 v170
  let v172 : IVec S4096x4096 32 := broadcastInDim S4096x4096 ![] bcast_S_S4096x4096 arg0
  let v173 : IVec S4096x4096 32 := addi v169 v172
  let c_44 : IVec S_ 32 := constantI S_ 32 5#32
  let v174 : IVec S4096x4096 32 := broadcastInDim S4096x4096 ![] bcast_S_S4096x4096 c_44
  let v175 : IVec S4096x4096 32 := addi v173 v174
  (v171, v175)

def fn_threefry2x32_part8 {F : FTy → Type} [FloatOps F] (arg0 : IVec S_ 32) (v1 : IVec S_ 32) (v148 : IVec S4096x4096 32) (v149 : IVec S4096x4096 32) (v151 : IVec S4096x4096 32) : IVec S4096x4096 32 × IVec S4096x4096 32 :=
  let c_39 : IVec S_ 32 := constantI S_ 32 17#32
  let v152 : IVec S4096x4096 32 := broadcastInDim S4096x4096 ![] bcast_S_S4096x4096 c_39
  let v153 : IVec S4096x4096 32 := Host.shrui v148 v152
  let v154 : IVec S4096x4096 32 := ori v151 v153
  let v155 : IVec S4096x4096 32 := xori v149 v154
  let v156 : IVec S4096x4096 32 := addi v149 v155
  let c_40 : IVec S_ 32 := constantI S_ 32 26#32
  let v157 : IVec S4096x4096 32 := broadcastInDim S4096x4096 ![] bcast_S_S4096x4096 c_40
  let v158 : IVec S4096x4096 32 := Host.shli v155 v157
  let c_41 : IVec S_ 32 := constantI S_ 32 6#32
  let v159 : IVec S4096x4096 32 := broadcastInDim S4096x4096 ![] bcast_S_S4096x4096 c_41
  let v160 : IVec S4096x4096 32 := Host.shrui v155 v159
  let v161 : IVec S4096x4096 32 := ori v158 v160
  let v162 : IVec S4096x4096 32 := xori v156 v161
  let v163 : IVec S4096x4096 32 := addi v156 v162
  let c_42 : IVec S_ 32 := constantI S_ 32 6#32
  let v164 : IVec S4096x4096 32 := broadcastInDim S4096x4096 ![] bcast_S_S4096x4096 c_42
  let v165 : IVec S4096x4096 32 := Host.shli v162 v164
  let c_43 : IVec S_ 32 := constantI S_ 32 26#32
  let v166 : IVec S4096x4096 32 := broadcastInDim S4096x4096 ![] bcast_S_S4096x4096 c_43
  let v167 : IVec S4096x4096 32 := Host.shrui v162 v166
  let v168 : IVec S4096x4096 32 := ori v165 v167
  let v169 : IVec S4096x4096 32 := xori v163 v168
  let v170 : IVec S4096x4096 32 := broadcastInDim S4096x4096 ![] bcast_S_S4096x4096 v1
  fn_threefry2x32_part9 (F := F) arg0 v163 v169 v170

def fn_threefry2x32_part7 {F : FTy → Type} [FloatOps F] (arg0 : IVec S_ 32) (arg1 : IVec S_ 32) (v1 : IVec S_ 32) (v128 : IVec S4096x4096 32) (v129 : IVec S4096x4096 32) (v131 : IVec S4096x4096 32) (c_34 : IVec S_ 32) : IVec S4096x4096 32 × IVec S4096x4096 32 :=
  let v132 : IVec S4096x4096 32 := broadcastInDim S4096x4096 ![] bcast_S_S4096x4096 c_34
  let v133 : IVec S4096x4096 32 := Host.shrui v128 v132
  let v134 : IVec S4096x4096 32 := ori v131 v133
  let v135 : IVec S4096x4096 32 := xori v129 v134
  let v136 : IVec S4096x4096 32 := broadcastInDim S4096x4096 ![] bcast_S_S4096x4096 arg1
  let v137 : IVec S4096x4096 32 := addi v129 v136
  let v138 : IVec S4096x4096 32 := broadcastInDim S4096x4096 ![] bcast_S_S4096x4096 v1
  let v139 : IVec S4096x4096 32 := addi v135 v138
  let c_35 : IVec S_ 32 := constantI S_ 32 4#32
  let v140 : IVec S4096x4096 32 := broadcastInDim S4096x4096 ![] bcast_S_S4096x4096 c_35
  let v141 : IVec S4096x4096 32 := addi v139 v140
  let v142 : IVec S4096x4096 32 := addi v137 v141
  let c_36 : IVec S_ 32 := constantI S_ 32 13#32
  let v143 : IVec S4096x4096 32 := broadcastInDim S4096x4096 ![] bcast_S_S4096x4096 c_36
  let v144 : IVec S4096x4096 32 := Host.shli v141 v143
  let c_37 : IVec S_ 32 := constantI S_ 32 19#32
  let v145 : IVec S4096x4096 32 := broadcastInDim S4096x4096 ![] bcast_S_S4096x4096 c_37
  let v146 : IVec S4096x4096 32 := Host.shrui v141 v145
  let v147 : IVec S4096x4096 32 := ori v144 v146
  let v148 : IVec S4096x4096 32 := xori v142 v147
  let v149 : IVec S4096x4096 32 := addi v142 v148
  let c_38 : IVec S_ 32 := constantI S_ 32 15#32
  let v150 : IVec S4096x4096 32 := broadcastInDim S4096x4096 ![] bcast_S_S4096x4096 c_38
  let v151 : IVec S4096x4096 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S4096x4096 32) (v113 : IVec S4096x4096 32) : IVec S4096x4096 32 × IVec S4096x4096 32 :=
  let v114 : IVec S4096x4096 32 := xori v108 v113
  let v115 : IVec S4096x4096 32 := addi v108 v114
  let c_29 : IVec S_ 32 := constantI S_ 32 29#32
  let v116 : IVec S4096x4096 32 := broadcastInDim S4096x4096 ![] bcast_S_S4096x4096 c_29
  let v117 : IVec S4096x4096 32 := Host.shli v114 v116
  let c_30 : IVec S_ 32 := constantI S_ 32 3#32
  let v118 : IVec S4096x4096 32 := broadcastInDim S4096x4096 ![] bcast_S_S4096x4096 c_30
  let v119 : IVec S4096x4096 32 := Host.shrui v114 v118
  let v120 : IVec S4096x4096 32 := ori v117 v119
  let v121 : IVec S4096x4096 32 := xori v115 v120
  let v122 : IVec S4096x4096 32 := addi v115 v121
  let c_31 : IVec S_ 32 := constantI S_ 32 16#32
  let v123 : IVec S4096x4096 32 := broadcastInDim S4096x4096 ![] bcast_S_S4096x4096 c_31
  let v124 : IVec S4096x4096 32 := Host.shli v121 v123
  let c_32 : IVec S_ 32 := constantI S_ 32 16#32
  let v125 : IVec S4096x4096 32 := broadcastInDim S4096x4096 ![] bcast_S_S4096x4096 c_32
  let v126 : IVec S4096x4096 32 := Host.shrui v121 v125
  let v127 : IVec S4096x4096 32 := ori v124 v126
  let v128 : IVec S4096x4096 32 := xori v122 v127
  let v129 : IVec S4096x4096 32 := addi v122 v128
  let c_33 : IVec S_ 32 := constantI S_ 32 24#32
  let v130 : IVec S4096x4096 32 := broadcastInDim S4096x4096 ![] bcast_S_S4096x4096 c_33
  let v131 : IVec S4096x4096 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S4096x4096 32) (v94 : IVec S4096x4096 32) : IVec S4096x4096 32 × IVec S4096x4096 32 :=
  let v95 : IVec S4096x4096 32 := addi v88 v94
  let c_24 : IVec S_ 32 := constantI S_ 32 6#32
  let v96 : IVec S4096x4096 32 := broadcastInDim S4096x4096 ![] bcast_S_S4096x4096 c_24
  let v97 : IVec S4096x4096 32 := Host.shli v94 v96
  let c_25 : IVec S_ 32 := constantI S_ 32 26#32
  let v98 : IVec S4096x4096 32 := broadcastInDim S4096x4096 ![] bcast_S_S4096x4096 c_25
  let v99 : IVec S4096x4096 32 := Host.shrui v94 v98
  let v100 : IVec S4096x4096 32 := ori v97 v99
  let v101 : IVec S4096x4096 32 := xori v95 v100
  let v102 : IVec S4096x4096 32 := broadcastInDim S4096x4096 ![] bcast_S_S4096x4096 arg0
  let v103 : IVec S4096x4096 32 := addi v95 v102
  let v104 : IVec S4096x4096 32 := broadcastInDim S4096x4096 ![] bcast_S_S4096x4096 arg1
  let v105 : IVec S4096x4096 32 := addi v101 v104
  let c_26 : IVec S_ 32 := constantI S_ 32 3#32
  let v106 : IVec S4096x4096 32 := broadcastInDim S4096x4096 ![] bcast_S_S4096x4096 c_26
  let v107 : IVec S4096x4096 32 := addi v105 v106
  let v108 : IVec S4096x4096 32 := addi v103 v107
  let c_27 : IVec S_ 32 := constantI S_ 32 17#32
  let v109 : IVec S4096x4096 32 := broadcastInDim S4096x4096 ![] bcast_S_S4096x4096 c_27
  let v110 : IVec S4096x4096 32 := Host.shli v107 v109
  let c_28 : IVec S_ 32 := constantI S_ 32 15#32
  let v111 : IVec S4096x4096 32 := broadcastInDim S4096x4096 ![] bcast_S_S4096x4096 c_28
  let v112 : IVec S4096x4096 32 := Host.shrui v107 v111
  let v113 : IVec S4096x4096 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S4096x4096 32) (v74 : IVec S4096x4096 32) (v75 : IVec S4096x4096 32) : IVec S4096x4096 32 × IVec S4096x4096 32 :=
  let v76 : IVec S4096x4096 32 := Host.shli v73 v75
  let c_19 : IVec S_ 32 := constantI S_ 32 19#32
  let v77 : IVec S4096x4096 32 := broadcastInDim S4096x4096 ![] bcast_S_S4096x4096 c_19
  let v78 : IVec S4096x4096 32 := Host.shrui v73 v77
  let v79 : IVec S4096x4096 32 := ori v76 v78
  let v80 : IVec S4096x4096 32 := xori v74 v79
  let v81 : IVec S4096x4096 32 := addi v74 v80
  let c_20 : IVec S_ 32 := constantI S_ 32 15#32
  let v82 : IVec S4096x4096 32 := broadcastInDim S4096x4096 ![] bcast_S_S4096x4096 c_20
  let v83 : IVec S4096x4096 32 := Host.shli v80 v82
  let c_21 : IVec S_ 32 := constantI S_ 32 17#32
  let v84 : IVec S4096x4096 32 := broadcastInDim S4096x4096 ![] bcast_S_S4096x4096 c_21
  let v85 : IVec S4096x4096 32 := Host.shrui v80 v84
  let v86 : IVec S4096x4096 32 := ori v83 v85
  let v87 : IVec S4096x4096 32 := xori v81 v86
  let v88 : IVec S4096x4096 32 := addi v81 v87
  let c_22 : IVec S_ 32 := constantI S_ 32 26#32
  let v89 : IVec S4096x4096 32 := broadcastInDim S4096x4096 ![] bcast_S_S4096x4096 c_22
  let v90 : IVec S4096x4096 32 := Host.shli v87 v89
  let c_23 : IVec S_ 32 := constantI S_ 32 6#32
  let v91 : IVec S4096x4096 32 := broadcastInDim S4096x4096 ![] bcast_S_S4096x4096 c_23
  let v92 : IVec S4096x4096 32 := Host.shrui v87 v91
  let v93 : IVec S4096x4096 32 := ori v90 v92
  let v94 : IVec S4096x4096 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S4096x4096 32) (v54 : IVec S4096x4096 32) (v56 : IVec S4096x4096 32) : IVec S4096x4096 32 × IVec S4096x4096 32 :=
  let c_14 : IVec S_ 32 := constantI S_ 32 16#32
  let v57 : IVec S4096x4096 32 := broadcastInDim S4096x4096 ![] bcast_S_S4096x4096 c_14
  let v58 : IVec S4096x4096 32 := Host.shrui v53 v57
  let v59 : IVec S4096x4096 32 := ori v56 v58
  let v60 : IVec S4096x4096 32 := xori v54 v59
  let v61 : IVec S4096x4096 32 := addi v54 v60
  let c_15 : IVec S_ 32 := constantI S_ 32 24#32
  let v62 : IVec S4096x4096 32 := broadcastInDim S4096x4096 ![] bcast_S_S4096x4096 c_15
  let v63 : IVec S4096x4096 32 := Host.shli v60 v62
  let c_16 : IVec S_ 32 := constantI S_ 32 8#32
  let v64 : IVec S4096x4096 32 := broadcastInDim S4096x4096 ![] bcast_S_S4096x4096 c_16
  let v65 : IVec S4096x4096 32 := Host.shrui v60 v64
  let v66 : IVec S4096x4096 32 := ori v63 v65
  let v67 : IVec S4096x4096 32 := xori v61 v66
  let v68 : IVec S4096x4096 32 := broadcastInDim S4096x4096 ![] bcast_S_S4096x4096 v1
  let v69 : IVec S4096x4096 32 := addi v61 v68
  let v70 : IVec S4096x4096 32 := broadcastInDim S4096x4096 ![] bcast_S_S4096x4096 arg0
  let v71 : IVec S4096x4096 32 := addi v67 v70
  let c_17 : IVec S_ 32 := constantI S_ 32 2#32
  let v72 : IVec S4096x4096 32 := broadcastInDim S4096x4096 ![] bcast_S_S4096x4096 c_17
  let v73 : IVec S4096x4096 32 := addi v71 v72
  let v74 : IVec S4096x4096 32 := addi v69 v73
  let c_18 : IVec S_ 32 := constantI S_ 32 13#32
  let v75 : IVec S4096x4096 32 := broadcastInDim S4096x4096 ![] bcast_S_S4096x4096 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S4096x4096 32) (v37 : IVec S4096x4096 32) (c_8 : IVec S_ 32) : IVec S4096x4096 32 × IVec S4096x4096 32 :=
  let v38 : IVec S4096x4096 32 := broadcastInDim S4096x4096 ![] bcast_S_S4096x4096 c_8
  let v39 : IVec S4096x4096 32 := addi v37 v38
  let v40 : IVec S4096x4096 32 := addi v35 v39
  let c_9 : IVec S_ 32 := constantI S_ 32 17#32
  let v41 : IVec S4096x4096 32 := broadcastInDim S4096x4096 ![] bcast_S_S4096x4096 c_9
  let v42 : IVec S4096x4096 32 := Host.shli v39 v41
  let c_10 : IVec S_ 32 := constantI S_ 32 15#32
  let v43 : IVec S4096x4096 32 := broadcastInDim S4096x4096 ![] bcast_S_S4096x4096 c_10
  let v44 : IVec S4096x4096 32 := Host.shrui v39 v43
  let v45 : IVec S4096x4096 32 := ori v42 v44
  let v46 : IVec S4096x4096 32 := xori v40 v45
  let v47 : IVec S4096x4096 32 := addi v40 v46
  let c_11 : IVec S_ 32 := constantI S_ 32 29#32
  let v48 : IVec S4096x4096 32 := broadcastInDim S4096x4096 ![] bcast_S_S4096x4096 c_11
  let v49 : IVec S4096x4096 32 := Host.shli v46 v48
  let c_12 : IVec S_ 32 := constantI S_ 32 3#32
  let v50 : IVec S4096x4096 32 := broadcastInDim S4096x4096 ![] bcast_S_S4096x4096 c_12
  let v51 : IVec S4096x4096 32 := Host.shrui v46 v50
  let v52 : IVec S4096x4096 32 := ori v49 v51
  let v53 : IVec S4096x4096 32 := xori v47 v52
  let v54 : IVec S4096x4096 32 := addi v47 v53
  let c_13 : IVec S_ 32 := constantI S_ 32 16#32
  let v55 : IVec S4096x4096 32 := broadcastInDim S4096x4096 ![] bcast_S_S4096x4096 c_13
  let v56 : IVec S4096x4096 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S4096x4096 32) (v18 : IVec S4096x4096 32) : IVec S4096x4096 32 × IVec S4096x4096 32 :=
  let v19 : IVec S4096x4096 32 := xori v13 v18
  let v20 : IVec S4096x4096 32 := addi v13 v19
  let c_4 : IVec S_ 32 := constantI S_ 32 26#32
  let v21 : IVec S4096x4096 32 := broadcastInDim S4096x4096 ![] bcast_S_S4096x4096 c_4
  let v22 : IVec S4096x4096 32 := Host.shli v19 v21
  let c_5 : IVec S_ 32 := constantI S_ 32 6#32
  let v23 : IVec S4096x4096 32 := broadcastInDim S4096x4096 ![] bcast_S_S4096x4096 c_5
  let v24 : IVec S4096x4096 32 := Host.shrui v19 v23
  let v25 : IVec S4096x4096 32 := ori v22 v24
  let v26 : IVec S4096x4096 32 := xori v20 v25
  let v27 : IVec S4096x4096 32 := addi v20 v26
  let c_6 : IVec S_ 32 := constantI S_ 32 6#32
  let v28 : IVec S4096x4096 32 := broadcastInDim S4096x4096 ![] bcast_S_S4096x4096 c_6
  let v29 : IVec S4096x4096 32 := Host.shli v26 v28
  let c_7 : IVec S_ 32 := constantI S_ 32 26#32
  let v30 : IVec S4096x4096 32 := broadcastInDim S4096x4096 ![] bcast_S_S4096x4096 c_7
  let v31 : IVec S4096x4096 32 := Host.shrui v26 v30
  let v32 : IVec S4096x4096 32 := ori v29 v31
  let v33 : IVec S4096x4096 32 := xori v27 v32
  let v34 : IVec S4096x4096 32 := broadcastInDim S4096x4096 ![] bcast_S_S4096x4096 arg1
  let v35 : IVec S4096x4096 32 := addi v27 v34
  let v36 : IVec S4096x4096 32 := broadcastInDim S4096x4096 ![] bcast_S_S4096x4096 v1
  let v37 : IVec S4096x4096 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S4096x4096 32) (arg3 : IVec S4096x4096 32) : IVec S4096x4096 32 × IVec S4096x4096 32 :=
  let v0 : IVec S_ 32 := xori arg0 arg1
  let c : IVec S_ 32 := constantI S_ 32 466688986#32
  let v1 : IVec S_ 32 := xori v0 c
  let v2 : IVec S4096x4096 32 := broadcastInDim S4096x4096 ![] bcast_S_S4096x4096 arg0
  let v3 : IVec S4096x4096 32 := addi arg2 v2
  let v4 : IVec S4096x4096 32 := broadcastInDim S4096x4096 ![] bcast_S_S4096x4096 arg1
  let v5 : IVec S4096x4096 32 := addi arg3 v4
  let v6 : IVec S4096x4096 32 := addi v3 v5
  let c_0 : IVec S_ 32 := constantI S_ 32 13#32
  let v7 : IVec S4096x4096 32 := broadcastInDim S4096x4096 ![] bcast_S_S4096x4096 c_0
  let v8 : IVec S4096x4096 32 := Host.shli v5 v7
  let c_1 : IVec S_ 32 := constantI S_ 32 19#32
  let v9 : IVec S4096x4096 32 := broadcastInDim S4096x4096 ![] bcast_S_S4096x4096 c_1
  let v10 : IVec S4096x4096 32 := Host.shrui v5 v9
  let v11 : IVec S4096x4096 32 := ori v8 v10
  let v12 : IVec S4096x4096 32 := xori v6 v11
  let v13 : IVec S4096x4096 32 := addi v6 v12
  let c_2 : IVec S_ 32 := constantI S_ 32 15#32
  let v14 : IVec S4096x4096 32 := broadcastInDim S4096x4096 ![] bcast_S_S4096x4096 c_2
  let v15 : IVec S4096x4096 32 := Host.shli v12 v14
  let c_3 : IVec S_ 32 := constantI S_ 32 17#32
  let v16 : IVec S4096x4096 32 := broadcastInDim S4096x4096 ![] bcast_S_S4096x4096 c_3
  let v17 : IVec S4096x4096 32 := Host.shrui v12 v16
  let v18 : IVec S4096x4096 32 := ori v15 v17
  fn_threefry2x32_part1 (F := F) arg0 arg1 v1 v13 v18

def fn_uniform_part1 {F : FTy → Type} [FloatOps F] (v2 : FVec F S1x1 .f32) (v3 : FVec F S1x1 .f32) (v19_0 : IVec S4096x4096 32) (v19_1 : IVec S4096x4096 32) : FVec F S4096x4096 .f32 :=
  let v20 : IVec S4096x4096 32 := xori v19_0 v19_1
  let c_2 : IVec S_ 32 := constantI S_ 32 9#32
  let v21 : IVec S4096x4096 32 := broadcastInDim S4096x4096 ![] bcast_S_S4096x4096 c_2
  let v22 : IVec S4096x4096 32 := Host.shrui v20 v21
  let c_3 : IVec S_ 32 := constantI S_ 32 1065353216#32
  let v23 : IVec S4096x4096 32 := broadcastInDim S4096x4096 ![] bcast_S_S4096x4096 c_3
  let v24 : IVec S4096x4096 32 := ori v22 v23
  let v25 : FVec F S4096x4096 .f32 := bitcastToFloat .f32 v24
  let cst : FVec F S_ .f32 := constant S_ .f32 0x3F800000#32
  let v26 : FVec F S4096x4096 .f32 := broadcastInDim S4096x4096 ![] bcast_S_S4096x4096 cst
  let v27 : FVec F S4096x4096 .f32 := subf v25 v26
  let v28 : FVec F S1x1 .f32 := subf v3 v2
  let v29 : FVec F S4096x4096 .f32 := broadcastInDim S4096x4096 ![0, 1] bcast_S1x1_S4096x4096_0_1 v28
  let v30 : FVec F S4096x4096 .f32 := mulf v27 v29
  let v31 : FVec F S4096x4096 .f32 := broadcastInDim S4096x4096 ![0, 1] bcast_S1x1_S4096x4096_0_1 v2
  let v32 : FVec F S4096x4096 .f32 := addf v30 v31
  let v33 : FVec F S4096x4096 .f32 := broadcastInDim S4096x4096 ![0, 1] bcast_S1x1_S4096x4096_0_1 v2
  let v34 : FVec F S4096x4096 .f32 := maximumf v33 v32
  v34

def fn_uniform {F : FTy → Type} [FloatOps F] (arg0 : IVec S2 32) (arg1 : FVec F S_ .f32) (arg2 : FVec F S_ .f32) : FVec F S4096x4096 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S4096x4096 64 := iotaInDim S4096x4096 64 0
  let v9 : IVec S4096x4096 64 := iotaInDim S4096x4096 64 1
  let c : IVec S_ 64 := constantI S_ 64 4096#64
  let v10 : IVec S4096x4096 64 := broadcastInDim S4096x4096 ![] bcast_S_S4096x4096 c
  let v11 : IVec S4096x4096 64 := muli v10 v8
  let c_0 : IVec S_ 64 := constantI S_ 64 1#64
  let v12 : IVec S4096x4096 64 := broadcastInDim S4096x4096 ![] bcast_S_S4096x4096 c_0
  let v13 : IVec S4096x4096 64 := muli v12 v9
  let v14 : IVec S4096x4096 64 := addi v11 v13
  let c_1 : IVec S_ 64 := constantI S_ 64 32#64
  let v15 : IVec S4096x4096 64 := broadcastInDim S4096x4096 ![] bcast_S_S4096x4096 c_1
  let v16 : IVec S4096x4096 64 := Host.shrui v14 v15
  let v17 : IVec S4096x4096 32 := (trunci 32 · natLt_32_64) v14
  let v18 : IVec S4096x4096 32 := (trunci 32 · natLt_32_64) v16
  let v19_0 : IVec S4096x4096 32 := (fn_threefry2x32 (F := F) v5 v7 v18 v17).1
  let v19_1 : IVec S4096x4096 32 := (fn_threefry2x32 (F := F) v5 v7 v18 v17).2
  fn_uniform_part1 (F := F) v2 v3 v19_0 v19_1

def fn_part4 {F : FTy → Type} [FloatOps F] (main_v49 : FVec F S4096x4096 .f32) (main_v62 : IVec S4096 1) (main_v64 : FVec F S4096 .f32) (main_v65 : FVec F S4096x4096 .f32) (main_cst_27 : FVec F S_ .f32) : IVec S4096 1 :=
  let main_v66 : FVec F S4096 .f32 := (fun x v => Host.reduce FloatOps.minimumf x v reducesTo_S4096x4096_S4096_d1 h_S_) main_v65 main_cst_27
  let main_v67 : IVec S4096 1 := cmpf .oeq main_v64 main_v66
  let main_cst_28 : FVec F S_ .f32 := constant S_ .f32 0xFF800000#32
  let main_v68 : FVec F S4096 .f32 := (fun x v => Host.reduce FloatOps.maximumf x v reducesTo_S4096x4096_S4096_d1 h_S_) main_v49 main_cst_28
  let main_cst_29 : FVec F S_ .f32 := constant S_ .f32 0xFF800000#32
  let main_v69 : FVec F S4096 .f32 := broadcastInDim S4096 ![] bcast_S_S4096 main_cst_29
  let main_v70 : IVec S4096 1 := cmpf .oeq main_v68 main_v69
  let main_v71 : IVec S4096 1 := ori main_v67 main_v70
  let main_v72 : IVec S4096 1 := andi main_v62 main_v71
  main_v72

def fn_part3 {F : FTy → Type} [FloatOps F] (main_arg0 : FVec F S4096x4096 .f32) (main_v27 : FVec F S4096x4096 .f32) (main_v49 : FVec F S4096x4096 .f32) (main_v50 : FVec F S4096 .f32) : IVec S4096 1 :=
  let main_v51 : FVec F S4096x1 .f32 := broadcastInDim S4096x1 ![0] bcast_S4096_S4096x1_0 main_v50
  let main_v52 : FVec F S4096x4096 .f32 := broadcastInDim S4096x4096 ![0, 1] bcast_S4096x1_S4096x4096_0_1 main_v51
  let main_v53 : IVec S4096x4096 1 := cmpf .oeq main_v27 main_v52
  let main_cst_19 : FVec F S_ .f32 := constant S_ .f32 0xFF800000#32
  let main_v54 : FVec F S4096 .f32 := (fun x v => Host.reduce FloatOps.maximumf x v reducesTo_S4096x4096_S4096_d1 h_S_) main_v49 main_cst_19
  let main_v55 : FVec F S4096x1 .f32 := broadcastInDim S4096x1 ![0] bcast_S4096_S4096x1_0 main_v54
  let main_v56 : FVec F S4096x4096 .f32 := broadcastInDim S4096x4096 ![0, 1] bcast_S4096x1_S4096x4096_0_1 main_v55
  let main_v57 : IVec S4096x4096 1 := cmpf .oeq main_v49 main_v56
  let main_cst_20 : FVec F S_ .f32 := constant S_ .f32 0xFF800000#32
  let main_v58 : FVec F S4096x4096 .f32 := fn_where (F := F) main_v53 main_arg0 main_cst_20
  let main_cst_21 : FVec F S_ .f32 := constant S_ .f32 0xFF800000#32
  let main_v59 : FVec F S4096 .f32 := (fun x v => Host.reduce FloatOps.maximumf x v reducesTo_S4096x4096_S4096_d1 h_S_) main_v58 main_cst_21
  let main_cst_22 : FVec F S_ .f32 := constant S_ .f32 0x7F800000#32
  let main_v60 : FVec F S4096x4096 .f32 := fn_where (F := F) main_v53 main_arg0 main_cst_22
  let main_cst_23 : FVec F S_ .f32 := constant S_ .f32 0x7F800000#32
  let main_v61 : FVec F S4096 .f32 := (fun x v => Host.reduce FloatOps.minimumf x v reducesTo_S4096x4096_S4096_d1 h_S_) main_v60 main_cst_23
  let main_v62 : IVec S4096 1 := cmpf .oeq main_v59 main_v61
  let main_cst_24 : FVec F S_ .f32 := constant S_ .f32 0xFF800000#32
  let main_v63 : FVec F S4096x4096 .f32 := fn_where (F := F) main_v57 main_arg0 main_cst_24
  let main_cst_25 : FVec F S_ .f32 := constant S_ .f32 0xFF800000#32
  let main_v64 : FVec F S4096 .f32 := (fun x v => Host.reduce FloatOps.maximumf x v reducesTo_S4096x4096_S4096_d1 h_S_) main_v63 main_cst_25
  let main_cst_26 : FVec F S_ .f32 := constant S_ .f32 0x7F800000#32
  let main_v65 : FVec F S4096x4096 .f32 := fn_where (F := F) main_v57 main_arg0 main_cst_26
  let main_cst_27 : FVec F S_ .f32 := constant S_ .f32 0x7F800000#32
  fn_part4 (F := F) main_v49 main_v62 main_v64 main_v65 main_cst_27

def fn_part2 {F : FTy → Type} [FloatOps F] (main_arg0 : FVec F S4096x4096 .f32) (main_v6 : FVec F S4096x4096 .f32) (main_v27 : FVec F S4096x4096 .f32) (main_v30 : IVec S1 32) (main_v33 : IVec S1 32) : IVec S4096 1 :=
  let main_v34 : IVec S2 32 := (fun a b => concatenate S2 0 [⟨S1, a⟩, ⟨S1, b⟩] concatenates_S1_S1_S2_d0) main_v30 main_v33
  let main_cst_12 : FVec F S_ .f32 := constant S_ .f32 0x00000000#32
  let main_cst_13 : FVec F S_ .f32 := constant S_ .f32 0x3F800000#32
  let main_v35 : FVec F S4096x4096 .f32 := fn_uniform (F := F) main_v34 main_cst_12 main_cst_13
  let main_cst_14 : FVec F S_ .f32 := constant S_ .f32 0x3F800000#32
  let main_v36 : FVec F S4096x4096 .f32 := broadcastInDim S4096x4096 ![] bcast_S_S4096x4096 main_cst_14
  let main_v37 : FVec F S4096x4096 .f32 := mulf main_v35 main_v36
  let main_cst_15 : FVec F S_ .f32 := constant S_ .f32 0x00800000#32
  let main_v38 : FVec F S4096x4096 .f32 := broadcastInDim S4096x4096 ![] bcast_S_S4096x4096 main_cst_15
  let main_v39 : FVec F S4096x4096 .f32 := addf main_v37 main_v38
  let main_cst_16 : FVec F S_ .f32 := constant S_ .f32 0x00800000#32
  let main_v40 : FVec F S4096x4096 .f32 := broadcastInDim S4096x4096 ![] bcast_S_S4096x4096 main_cst_16
  let main_v41 : FVec F S4096x4096 .f32 := maximumf main_v40 main_v39
  let main_v42 : FVec F S4096x4096 .f32 := Host.log main_v41
  let main_v43 : FVec F S4096x4096 .f32 := Host.negf main_v42
  let main_v44 : FVec F S4096x4096 .f32 := Host.log main_v43
  let main_v45 : FVec F S4096x4096 .f32 := Host.negf main_v44
  let main_cst_17 : FVec F S_ .f32 := constant S_ .f32 0x3F800000#32
  let main_v46 : FVec F S4096x4096 .f32 := broadcastInDim S4096x4096 ![] bcast_S_S4096x4096 main_cst_17
  let main_v47 : FVec F S4096x4096 .f32 := Host.divf main_v6 main_v46
  let main_v48 : FVec F S4096x4096 .f32 := Host.negf main_v47
  let main_v49 : FVec F S4096x4096 .f32 := addf main_v45 main_v48
  let main_cst_18 : FVec F S_ .f32 := constant S_ .f32 0xFF800000#32
  let main_v50 : FVec F S4096 .f32 := (fun x v => Host.reduce FloatOps.maximumf x v reducesTo_S4096x4096_S4096_d1 h_S_) main_v27 main_cst_18
  fn_part3 (F := F) main_arg0 main_v27 main_v49 main_v50

def fn_part1 {F : FTy → Type} [FloatOps F] (main_arg0 : FVec F S4096x4096 .f32) (main_v5 : FVec F S4096x4096 .f32) (main_v6 : FVec F S4096x4096 .f32) (main_v14 : FVec F S4096x4096 .f32) (main_v15 : FVec F S4096x4096 .f32) : IVec S4096 1 :=
  let main_v16 : FVec F S4096x4096 .f32 := mulf main_v14 main_v15
  let main_cst_6 : FVec F S_ .f32 := constant S_ .f32 0x00800000#32
  let main_v17 : FVec F S4096x4096 .f32 := broadcastInDim S4096x4096 ![] bcast_S_S4096x4096 main_cst_6
  let main_v18 : FVec F S4096x4096 .f32 := addf main_v16 main_v17
  let main_cst_7 : FVec F S_ .f32 := constant S_ .f32 0x00800000#32
  let main_v19 : FVec F S4096x4096 .f32 := broadcastInDim S4096x4096 ![] bcast_S_S4096x4096 main_cst_7
  let main_v20 : FVec F S4096x4096 .f32 := maximumf main_v19 main_v18
  let main_v21 : FVec F S4096x4096 .f32 := Host.log main_v20
  let main_v22 : FVec F S4096x4096 .f32 := Host.negf main_v21
  let main_v23 : FVec F S4096x4096 .f32 := Host.log main_v22
  let main_v24 : FVec F S4096x4096 .f32 := Host.negf main_v23
  let main_cst_8 : FVec F S_ .f32 := constant S_ .f32 0x3F800000#32
  let main_v25 : FVec F S4096x4096 .f32 := broadcastInDim S4096x4096 ![] bcast_S_S4096x4096 main_cst_8
  let main_v26 : FVec F S4096x4096 .f32 := Host.divf main_v5 main_v25
  let main_v27 : FVec F S4096x4096 .f32 := addf main_v24 main_v26
  let main_c_9 : IVec S_ 32 := constantI S_ 32 456#32
  let main_c_10 : IVec S_ 32 := constantI S_ 32 32#32
  let main_v28 : IVec S_ 32 := Host.shrui main_c_9 main_c_10
  let main_v29 : IVec S_ 32 := id main_v28
  let main_v30 : IVec S1 32 := broadcastInDim S1 ![] bcast_S_S1 main_v29
  let main_c_11 : IVec S_ 32 := constantI S_ 32 4294967295#32
  let main_v31 : IVec S_ 32 := andi main_c_9 main_c_11
  let main_v32 : IVec S_ 32 := id main_v31
  let main_v33 : IVec S1 32 := broadcastInDim S1 ![] bcast_S_S1 main_v32
  fn_part2 (F := F) main_arg0 main_v6 main_v27 main_v30 main_v33

def fn {F : FTy → Type} [FloatOps F] (main_arg0 : FVec F S4096x4096 .f32) (main_arg1 : IVec S4096 32) : IVec S4096 1 :=
  let main_v0 : IVec S1x4096 32 := broadcastInDim S1x4096 ![1] bcast_S4096_S1x4096_1 main_arg1
  let main_v1 : IVec S4096x1 32 := broadcastInDim S4096x1 ![0] bcast_S4096_S4096x1_0 main_arg1
  let main_v2 : IVec S4096x4096 32 := broadcastInDim S4096x4096 ![0, 1] bcast_S1x4096_S4096x4096_0_1 main_v0
  let main_v3 : IVec S4096x4096 32 := broadcastInDim S4096x4096 ![0, 1] bcast_S4096x1_S4096x4096_0_1 main_v1
  let main_v4 : IVec S4096x4096 1 := cmpi .eq main_v2 main_v3
  let main_cst : FVec F S_ .f32 := constant S_ .f32 0xFF800000#32
  let main_v5 : FVec F S4096x4096 .f32 := fn_where (F := F) main_v4 main_arg0 main_cst
  let main_cst_0 : FVec F S_ .f32 := constant S_ .f32 0x7F800000#32
  let main_v6 : FVec F S4096x4096 .f32 := fn_where_0 (F := F) main_v4 main_cst_0 main_arg0
  let main_c : IVec S_ 32 := constantI S_ 32 123#32
  let main_c_1 : IVec S_ 32 := constantI S_ 32 32#32
  let main_v7 : IVec S_ 32 := Host.shrui main_c main_c_1
  let main_v8 : IVec S_ 32 := id main_v7
  let main_v9 : IVec S1 32 := broadcastInDim S1 ![] bcast_S_S1 main_v8
  let main_c_2 : IVec S_ 32 := constantI S_ 32 4294967295#32
  let main_v10 : IVec S_ 32 := andi main_c main_c_2
  let main_v11 : IVec S_ 32 := id main_v10
  let main_v12 : IVec S1 32 := broadcastInDim S1 ![] bcast_S_S1 main_v11
  let main_v13 : IVec S2 32 := (fun a b => concatenate S2 0 [⟨S1, a⟩, ⟨S1, b⟩] concatenates_S1_S1_S2_d0) main_v9 main_v12
  let main_cst_3 : FVec F S_ .f32 := constant S_ .f32 0x00000000#32
  let main_cst_4 : FVec F S_ .f32 := constant S_ .f32 0x3F800000#32
  let main_v14 : FVec F S4096x4096 .f32 := fn_uniform (F := F) main_v13 main_cst_3 main_cst_4
  let main_cst_5 : FVec F S_ .f32 := constant S_ .f32 0x3F800000#32
  let main_v15 : FVec F S4096x4096 .f32 := broadcastInDim S4096x4096 ![] bcast_S_S4096x4096 main_cst_5
  fn_part1 (F := F) main_arg0 main_v5 main_v6 main_v14 main_v15
-- ==== Kernel.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S256x1 : Shape := ⟨2, ![256, 1]⟩
abbrev S256x4096 : Shape := ⟨2, ![256, 4096]⟩
abbrev S256 : Shape := ⟨1, ![256]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S4096, .f32⟩
  | .local _ .vmem, ⟨0, _⟩ => ⟨S256x1, .i32⟩
  | .local _ .vmem, ⟨1, _⟩ => ⟨S256x1, .i32⟩
  | .local _ .vmem, ⟨2, _⟩ => ⟨S1x4096, .i32⟩
  | .local _ .vmem, ⟨3, _⟩ => ⟨S256x4096, .f32⟩
  | .local _ .vmem, ⟨4, _⟩ => ⟨S256x4096, .f32⟩
  | .local _ .vmem, ⟨5, _⟩ => ⟨S256x1, .f32⟩
  | .local _ .vmem, ⟨6, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S1 : Shape := ⟨1, ![1]⟩
abbrev S2 : Shape := ⟨1, ![2]⟩
abbrev S1x1 : Shape := ⟨2, ![1, 1]⟩
abbrev S4096x1x1 : Shape := ⟨3, ![4096, 1, 1]⟩
abbrev S1x1x1 : Shape := ⟨3, ![1, 1, 1]⟩

abbrev nBuf : Space → Nat
  | .hbm => 671
  | .vmem => 0
  | .smem => 0
  | _ => 0

abbrev hbmTy0_0 (i : Nat) : BufTy := match i % 128 with
  | 0 => ⟨S4096x4096, .f32⟩
  | 1 => ⟨S4096, .i32⟩
  | 2 => ⟨S1x4096, .i32⟩
  | 3 => ⟨S4096x1, .i32⟩
  | 4 => ⟨S4096x4096, .i32⟩
  | 5 => ⟨S4096x4096, .i32⟩
  | 6 => ⟨S4096x4096, .i1⟩
  | 7 => ⟨S_, .f32⟩
  | 8 => ⟨S_, .f32⟩
  | 9 => ⟨S4096x4096, .f32⟩
  | 10 => ⟨S4096x4096, .f32⟩
  | 11 => ⟨S_, .f32⟩
  | 12 => ⟨S_, .f32⟩
  | 13 => ⟨S4096x4096, .f32⟩
  | 14 => ⟨S4096x4096, .f32⟩
  | 15 => ⟨S_, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S1, .i32⟩
  | 24 => ⟨S2, .i32⟩
  | 25 => ⟨S_, .f32⟩
  | 26 => ⟨S_, .f32⟩
  | 27 => ⟨S_, .f32⟩
  | 28 => ⟨S_, .f32⟩
  | 29 => ⟨S1x1, .f32⟩
  | 30 => ⟨S1x1, .f32⟩
  | 31 => ⟨S1, .i32⟩
  | 32 => ⟨S_, .i32⟩
  | 33 => ⟨S1, .i32⟩
  | 34 => ⟨S_, .i32⟩
  | 35 => ⟨S4096x4096, .i64⟩
  | 36 => ⟨S4096x4096, .i64⟩
  | 37 => ⟨S_, .i64⟩
  | 38 => ⟨S4096x4096, .i64⟩
  | 39 => ⟨S4096x4096, .i64⟩
  | 40 => ⟨S_, .i64⟩
  | 41 => ⟨S4096x4096, .i64⟩
  | 42 => ⟨S4096x4096, .i64⟩
  | 43 => ⟨S4096x4096, .i64⟩
  | 44 => ⟨S_, .i64⟩
  | 45 => ⟨S4096x4096, .i64⟩
  | 46 => ⟨S4096x4096, .i64⟩
  | 47 => ⟨S4096x4096, .i32⟩
  | 48 => ⟨S4096x4096, .i32⟩
  | 49 => ⟨S_, .i32⟩
  | 50 => ⟨S_, .i32⟩
  | 51 => ⟨S_, .i32⟩
  | 52 => ⟨S4096x4096, .i32⟩
  | 53 => ⟨S4096x4096, .i32⟩
  | 54 => ⟨S4096x4096, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S_, .i32⟩
  | 61 => ⟨S4096x4096, .i32⟩
  | 62 => ⟨S4096x4096, .i32⟩
  | 63 => ⟨S4096x4096, .i32⟩
  | 64 => ⟨S4096x4096, .i32⟩
  | 65 => ⟨S4096x4096, .i32⟩
  | 66 => ⟨S_, .i32⟩
  | 67 => ⟨S4096x4096, .i32⟩
  | 68 => ⟨S4096x4096, .i32⟩
  | 69 => ⟨S_, .i32⟩
  | 70 => ⟨S4096x4096, .i32⟩
  | 71 => ⟨S4096x4096, .i32⟩
  | 72 => ⟨S4096x4096, .i32⟩
  | 73 => ⟨S4096x4096, .i32⟩
  | 74 => ⟨S4096x4096, .i32⟩
  | 75 => ⟨S_, .i32⟩
  | 76 => ⟨S4096x4096, .i32⟩
  | 77 => ⟨S4096x4096, .i32⟩
  | 78 => ⟨S_, .i32⟩
  | 79 => ⟨S4096x4096, .i32⟩
  | 80 => ⟨S4096x4096, .i32⟩
  | 81 => ⟨S4096x4096, .i32⟩
  | 82 => ⟨S4096x4096, .i32⟩
  | 83 => ⟨S4096x4096, .i32⟩
  | 84 => ⟨S_, .i32⟩
  | 85 => ⟨S4096x4096, .i32⟩
  | 86 => ⟨S4096x4096, .i32⟩
  | 87 => ⟨S_, .i32⟩
  | 88 => ⟨S4096x4096, .i32⟩
  | 89 => ⟨S4096x4096, .i32⟩
  | 90 => ⟨S4096x4096, .i32⟩
  | 91 => ⟨S4096x4096, .i32⟩
  | 92 => ⟨S4096x4096, .i32⟩
  | 93 => ⟨S4096x4096, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S4096x4096, .i32⟩
  | 100 => ⟨S_, .i32⟩
  | 101 => ⟨S4096x4096, .i32⟩
  | 102 => ⟨S4096x4096, .i32⟩
  | 103 => ⟨S_, .i32⟩
  | 104 => ⟨S4096x4096, .i32⟩
  | 105 => ⟨S4096x4096, .i32⟩
  | 106 => ⟨S4096x4096, .i32⟩
  | 107 => ⟨S4096x4096, .i32⟩
  | 108 => ⟨S4096x4096, .i32⟩
  | 109 => ⟨S_, .i32⟩
  | 110 => ⟨S4096x4096, .i32⟩
  | 111 => ⟨S4096x4096, .i32⟩
  | 112 => ⟨S_, .i32⟩
  | 113 => ⟨S4096x4096, .i32⟩
  | 114 => ⟨S4096x4096, .i32⟩
  | 115 => ⟨S4096x4096, .i32⟩
  | 116 => ⟨S4096x4096, .i32⟩
  | 117 => ⟨S4096x4096, .i32⟩
  | 118 => ⟨S_, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S4096x4096, .i32⟩
  | 125 => ⟨S4096x4096, .i32⟩
  | 126 => ⟨S4096x4096, .i32⟩
  | 127 => ⟨S_, .i32⟩
  | _ => ⟨S4096x4096, .f32⟩

abbrev hbmTy0_1 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S4096x4096, .i32⟩
  | 6 => ⟨S4096x4096, .i32⟩
  | 7 => ⟨S4096x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i32⟩
  | 18 => ⟨S_, .i32⟩
  | 19 => ⟨S4096x4096, .i32⟩
  | 20 => ⟨S4096x4096, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S4096x4096, .i32⟩
  | 49 => ⟨S4096x4096, .i32⟩
  | 50 => ⟨S4096x4096, .i32⟩
  | 51 => ⟨S4096x4096, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S_, .i32⟩
  | 62 => ⟨S4096x4096, .i32⟩
  | 63 => ⟨S4096x4096, .i32⟩
  | 64 => ⟨S4096x4096, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i32⟩
  | 73 => ⟨S4096x4096, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S4096x4096, .i32⟩
  | 83 => ⟨S4096x4096, .i32⟩
  | 84 => ⟨S4096x4096, .i32⟩
  | 85 => ⟨S_, .i32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i32⟩
  | 92 => ⟨S4096x4096, .i32⟩
  | 93 => ⟨S4096x4096, .i32⟩
  | 94 => ⟨S4096x4096, .i32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S4096x4096, .i32⟩
  | 101 => ⟨S_, .i32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_2 (i : Nat) : BufTy := match i % 128 with
  | 0 => ⟨S_, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S4096x4096, .i32⟩
  | 7 => ⟨S4096x4096, .i32⟩
  | 8 => ⟨S4096x4096, .i32⟩
  | 9 => ⟨S4096x4096, .i32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S4096x4096, .f32⟩
  | 23 => ⟨S_, .f32⟩
  | 24 => ⟨S4096x4096, .f32⟩
  | 25 => ⟨S4096x4096, .f32⟩
  | 26 => ⟨S1x1, .f32⟩
  | 27 => ⟨S4096x4096, .f32⟩
  | 28 => ⟨S4096x4096, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x4096, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S4096x4096, .f32⟩
  | 50 => ⟨S_, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S_, .i32⟩
  | 58 => ⟨S1, .i32⟩
  | 59 => ⟨S2, .i32⟩
  | 60 => ⟨S_, .f32⟩
  | 61 => ⟨S_, .f32⟩
  | 62 => ⟨S_, .f32⟩
  | 63 => ⟨S_, .f32⟩
  | 64 => ⟨S1x1, .f32⟩
  | 65 => ⟨S1x1, .f32⟩
  | 66 => ⟨S1, .i32⟩
  | 67 => ⟨S_, .i32⟩
  | 68 => ⟨S1, .i32⟩
  | 69 => ⟨S_, .i32⟩
  | 70 => ⟨S4096x4096, .i64⟩
  | 71 => ⟨S4096x4096, .i64⟩
  | 72 => ⟨S_, .i64⟩
  | 73 => ⟨S4096x4096, .i64⟩
  | 74 => ⟨S4096x4096, .i64⟩
  | 75 => ⟨S_, .i64⟩
  | 76 => ⟨S4096x4096, .i64⟩
  | 77 => ⟨S4096x4096, .i64⟩
  | 78 => ⟨S4096x4096, .i64⟩
  | 79 => ⟨S_, .i64⟩
  | 80 => ⟨S4096x4096, .i64⟩
  | 81 => ⟨S4096x4096, .i64⟩
  | 82 => ⟨S4096x4096, .i32⟩
  | 83 => ⟨S4096x4096, .i32⟩
  | 84 => ⟨S_, .i32⟩
  | 85 => ⟨S_, .i32⟩
  | 86 => ⟨S_, .i32⟩
  | 87 => ⟨S4096x4096, .i32⟩
  | 88 => ⟨S4096x4096, .i32⟩
  | 89 => ⟨S4096x4096, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S4096x4096, .i32⟩
  | 99 => ⟨S4096x4096, .i32⟩
  | 100 => ⟨S4096x4096, .i32⟩
  | 101 => ⟨S_, .i32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_3 (i : Nat) : BufTy := match i % 128 with
  | 0 => ⟨S4096x4096, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S4096x4096, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S4096x4096, .i32⟩
  | 50 => ⟨S_, .i32⟩
  | 51 => ⟨S4096x4096, .i32⟩
  | 52 => ⟨S4096x4096, .i32⟩
  | 53 => ⟨S_, .i32⟩
  | 54 => ⟨S4096x4096, .i32⟩
  | 55 => ⟨S4096x4096, .i32⟩
  | 56 => ⟨S4096x4096, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S_, .i32⟩
  | 63 => ⟨S4096x4096, .i32⟩
  | 64 => ⟨S4096x4096, .i32⟩
  | 65 => ⟨S4096x4096, .i32⟩
  | 66 => ⟨S4096x4096, .i32⟩
  | 67 => ⟨S4096x4096, .i32⟩
  | 68 => ⟨S_, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S4096x4096, .i32⟩
  | 75 => ⟨S4096x4096, .i32⟩
  | 76 => ⟨S4096x4096, .i32⟩
  | 77 => ⟨S_, .i32⟩
  | 78 => ⟨S4096x4096, .i32⟩
  | 79 => ⟨S4096x4096, .i32⟩
  | 80 => ⟨S_, .i32⟩
  | 81 => ⟨S4096x4096, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S4096x4096, .i32⟩
  | 88 => ⟨S4096x4096, .i32⟩
  | 89 => ⟨S_, .i32⟩
  | 90 => ⟨S4096x4096, .i32⟩
  | 91 => ⟨S4096x4096, .i32⟩
  | 92 => ⟨S4096x4096, .i32⟩
  | 93 => ⟨S_, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S4096x4096, .i32⟩
  | 100 => ⟨S4096x4096, .i32⟩
  | 101 => ⟨S4096x4096, .i32⟩
  | 102 => ⟨S_, .i32⟩
  | 103 => ⟨S4096x4096, .i32⟩
  | 104 => ⟨S4096x4096, .i32⟩
  | 105 => ⟨S_, .i32⟩
  | 106 => ⟨S4096x4096, .i32⟩
  | 107 => ⟨S4096x4096, .i32⟩
  | 108 => ⟨S4096x4096, .i32⟩
  | 109 => ⟨S4096x4096, .i32⟩
  | 110 => ⟨S4096x4096, .i32⟩
  | 111 => ⟨S_, .i32⟩
  | 112 => ⟨S4096x4096, .i32⟩
  | 113 => ⟨S4096x4096, .i32⟩
  | 114 => ⟨S_, .i32⟩
  | 115 => ⟨S4096x4096, .i32⟩
  | 116 => ⟨S4096x4096, .i32⟩
  | 117 => ⟨S4096x4096, .i32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_4 (i : Nat) : BufTy := match i % 128 with
  | 0 => ⟨S4096x4096, .i32⟩
  | 1 => ⟨S4096x4096, .i32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S4096x4096, .i32⟩
  | 8 => ⟨S_, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S4096x4096, .i32⟩
  | 15 => ⟨S4096x4096, .i32⟩
  | 16 => ⟨S4096x4096, .i32⟩
  | 17 => ⟨S_, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .i32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S4096x4096, .i32⟩
  | 33 => ⟨S4096x4096, .i32⟩
  | 34 => ⟨S4096x4096, .i32⟩
  | 35 => ⟨S_, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S4096x4096, .f32⟩
  | 58 => ⟨S_, .f32⟩
  | 59 => ⟨S4096x4096, .f32⟩
  | 60 => ⟨S4096x4096, .f32⟩
  | 61 => ⟨S1x1, .f32⟩
  | 62 => ⟨S4096x4096, .f32⟩
  | 63 => ⟨S4096x4096, .f32⟩
  | 64 => ⟨S4096x4096, .f32⟩
  | 65 => ⟨S4096x4096, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S_, .f32⟩
  | 72 => ⟨S4096x4096, .f32⟩
  | 73 => ⟨S4096x4096, .f32⟩
  | 74 => ⟨S_, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S4096x4096, .f32⟩
  | 85 => ⟨S4096x4096, .f32⟩
  | 86 => ⟨S4096x4096, .i32⟩
  | 87 => ⟨S_, .f32⟩
  | 88 => ⟨S_, .i32⟩
  | 89 => ⟨S4096, .f32⟩
  | 90 => ⟨S4096, .i32⟩
  | 91 => ⟨S4096x4096, .i32⟩
  | 92 => ⟨S_, .f32⟩
  | 93 => ⟨S_, .i32⟩
  | 94 => ⟨S4096, .f32⟩
  | 95 => ⟨S4096, .i32⟩
  | 96 => ⟨S4096x1, .i32⟩
  | 97 => ⟨S_, .i32⟩
  | 98 => ⟨S4096x1, .i32⟩
  | 99 => ⟨S4096x1, .i1⟩
  | 100 => ⟨S_, .i32⟩
  | 101 => ⟨S4096x1, .i32⟩
  | 102 => ⟨S4096x1, .i32⟩
  | 103 => ⟨S4096x1, .i32⟩
  | 104 => ⟨S4096x1x1, .i32⟩
  | 105 => ⟨S1, .i32⟩
  | 106 => ⟨S_, .i32⟩
  | 107 => ⟨S4096x1x1, .i32⟩
  | 108 => ⟨S4096x1x1, .i1⟩
  | 109 => ⟨S1x1x1, .i32⟩
  | 110 => ⟨S4096x1x1, .i32⟩
  | 111 => ⟨S4096x1x1, .i1⟩
  | 112 => ⟨S4096x1x1, .i1⟩
  | 113 => ⟨S_, .i1⟩
  | 114 => ⟨S4096x1, .i1⟩
  | 115 => ⟨S4096x1, .f32⟩
  | 116 => ⟨S_, .f32⟩
  | 117 => ⟨S4096x1, .f32⟩
  | 118 => ⟨S4096x1, .f32⟩
  | 119 => ⟨S4096, .f32⟩
  | 120 => ⟨S4096x1, .i32⟩
  | 121 => ⟨S_, .i32⟩
  | 122 => ⟨S4096x1, .i32⟩
  | 123 => ⟨S4096x1, .i1⟩
  | 124 => ⟨S_, .i32⟩
  | 125 => ⟨S4096x1, .i32⟩
  | 126 => ⟨S4096x1, .i32⟩
  | 127 => ⟨S4096x1, .i32⟩
  | _ => ⟨S4096x4096, .f32⟩

abbrev hbmTy0_5 (i : Nat) : BufTy := match i % 128 with
  | 0 => ⟨S4096x1x1, .i32⟩
  | 1 => ⟨S1, .i32⟩
  | 2 => ⟨S_, .i32⟩
  | 3 => ⟨S4096x1x1, .i32⟩
  | 4 => ⟨S4096x1x1, .i1⟩
  | 5 => ⟨S1x1x1, .i32⟩
  | 6 => ⟨S4096x1x1, .i32⟩
  | 7 => ⟨S4096x1x1, .i1⟩
  | 8 => ⟨S4096x1x1, .i1⟩
  | 9 => ⟨S_, .i1⟩
  | 10 => ⟨S4096x1, .i1⟩
  | 11 => ⟨S4096x1, .f32⟩
  | 12 => ⟨S_, .f32⟩
  | 13 => ⟨S4096x1, .f32⟩
  | 14 => ⟨S4096x1, .f32⟩
  | 15 => ⟨S4096, .f32⟩
  | 16 => ⟨S4096, .f32⟩
  | 17 => ⟨S_, .f32⟩
  | 18 => ⟨S4096, .f32⟩
  | 19 => ⟨S4096, .f32⟩
  | 20 => ⟨S4096, .f32⟩
  | 21 => ⟨S4096, .f32⟩
  | 22 => ⟨S4096, .i1⟩
  | 23 => ⟨S4096, .f32⟩
  | 24 => ⟨S4096, .f32⟩
  | 25 => ⟨S4096, .f32⟩
  | 26 => ⟨S4096, .f32⟩
  | 27 => ⟨S4096, .f32⟩
  | 28 => ⟨S4096, .f32⟩
  | 29 => ⟨S4096, .f32⟩
  | 30 => ⟨S4096, .f32⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v6 : Ref sig .tc := ⟨.hbm, 14, rfl⟩
abbrev main_c : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_c : Ref sig .tc := ⟨.hbm, 37, rfl⟩
abbrev main_call2_v10 : Ref sig .tc := ⟨.hbm, 38, rfl⟩
abbrev main_call2_v11 : Ref sig .tc := ⟨.hbm, 39, rfl⟩
abbrev main_call2_c_0 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_c_1 : Ref sig .tc := ⟨.hbm, 44, rfl⟩
abbrev main_call2_v15 : Ref sig .tc := ⟨.hbm, 45, rfl⟩
abbrev main_call2_v16 : Ref sig .tc := ⟨.hbm, 46, rfl⟩
abbrev main_call2_v17 : Ref sig .tc := ⟨.hbm, 47, rfl⟩
abbrev main_call2_v18 : Ref sig .tc := ⟨.hbm, 48, rfl⟩
abbrev main_call2_call0_v0 : Ref sig .tc := ⟨.hbm, 49, rfl⟩
abbrev main_call2_call0_c : Ref sig .tc := ⟨.hbm, 50, rfl⟩
abbrev main_call2_call0_v1 : Ref sig .tc := ⟨.hbm, 51, rfl⟩
abbrev main_call2_call0_v2 : Ref sig .tc := ⟨.hbm, 52, rfl⟩
abbrev main_call2_call0_v3 : Ref sig .tc := ⟨.hbm, 53, rfl⟩
abbrev main_call2_call0_v4 : Ref sig .tc := ⟨.hbm, 54, rfl⟩
abbrev main_call2_call0_v5 : Ref sig .tc := ⟨.hbm, 55, rfl⟩
abbrev main_call2_call0_v6 : Ref sig .tc := ⟨.hbm, 56, rfl⟩
abbrev main_call2_call0_c_0 : Ref sig .tc := ⟨.hbm, 57, rfl⟩
abbrev main_call2_call0_v7 : Ref sig .tc := ⟨.hbm, 58, rfl⟩
abbrev main_call2_call0_v8 : Ref sig .tc := ⟨.hbm, 59, rfl⟩
abbrev main_call2_call0_c_1 : Ref sig .tc := ⟨.hbm, 60, rfl⟩
abbrev main_call2_call0_v9 : Ref sig .tc := ⟨.hbm, 61, rfl⟩
abbrev main_call2_call0_v10 : Ref sig .tc := ⟨.hbm, 62, rfl⟩
abbrev main_call2_call0_v11 : Ref sig .tc := ⟨.hbm, 63, rfl⟩
abbrev main_call2_call0_v12 : Ref sig .tc := ⟨.hbm, 64, rfl⟩
abbrev main_call2_call0_v13 : Ref sig .tc := ⟨.hbm, 65, rfl⟩
abbrev main_call2_call0_c_2 : Ref sig .tc := ⟨.hbm, 66, rfl⟩
abbrev main_call2_call0_v14 : Ref sig .tc := ⟨.hbm, 67, rfl⟩
abbrev main_call2_call0_v15 : Ref sig .tc := ⟨.hbm, 68, rfl⟩
abbrev main_call2_call0_c_3 : Ref sig .tc := ⟨.hbm, 69, rfl⟩
abbrev main_call2_call0_v16 : Ref sig .tc := ⟨.hbm, 70, rfl⟩
abbrev main_call2_call0_v17 : Ref sig .tc := ⟨.hbm, 71, rfl⟩
abbrev main_call2_call0_v18 : Ref sig .tc := ⟨.hbm, 72, rfl⟩
abbrev main_call2_call0_v19 : Ref sig .tc := ⟨.hbm, 73, rfl⟩
abbrev main_call2_call0_v20 : Ref sig .tc := ⟨.hbm, 74, rfl⟩
abbrev main_call2_call0_c_4 : Ref sig .tc := ⟨.hbm, 75, rfl⟩
abbrev main_call2_call0_v21 : Ref sig .tc := ⟨.hbm, 76, rfl⟩
abbrev main_call2_call0_v22 : Ref sig .tc := ⟨.hbm, 77, rfl⟩
abbrev main_call2_call0_c_5 : Ref sig .tc := ⟨.hbm, 78, rfl⟩
abbrev main_call2_call0_v23 : Ref sig .tc := ⟨.hbm, 79, rfl⟩
abbrev main_call2_call0_v24 : Ref sig .tc := ⟨.hbm, 80, rfl⟩
abbrev main_call2_call0_v25 : Ref sig .tc := ⟨.hbm, 81, rfl⟩
abbrev main_call2_call0_v26 : Ref sig .tc := ⟨.hbm, 82, rfl⟩
abbrev main_call2_call0_v27 : Ref sig .tc := ⟨.hbm, 83, rfl⟩
abbrev main_call2_call0_c_6 : Ref sig .tc := ⟨.hbm, 84, rfl⟩
abbrev main_call2_call0_v28 : Ref sig .tc := ⟨.hbm, 85, rfl⟩
abbrev main_call2_call0_v29 : Ref sig .tc := ⟨.hbm, 86, rfl⟩
abbrev main_call2_call0_c_7 : Ref sig .tc := ⟨.hbm, 87, rfl⟩
abbrev main_call2_call0_v30 : Ref sig .tc := ⟨.hbm, 88, rfl⟩
abbrev main_call2_call0_v31 : Ref sig .tc := ⟨.hbm, 89, rfl⟩
abbrev main_call2_call0_v32 : Ref sig .tc := ⟨.hbm, 90, rfl⟩
abbrev main_call2_call0_v33 : Ref sig .tc := ⟨.hbm, 91, rfl⟩
abbrev main_call2_call0_v34 : Ref sig .tc := ⟨.hbm, 92, rfl⟩
abbrev main_call2_call0_v35 : Ref sig .tc := ⟨.hbm, 93, rfl⟩
abbrev main_call2_call0_v36 : Ref sig .tc := ⟨.hbm, 94, rfl⟩
abbrev main_call2_call0_v37 : Ref sig .tc := ⟨.hbm, 95, rfl⟩
abbrev main_call2_call0_c_8 : Ref sig .tc := ⟨.hbm, 96, rfl⟩
abbrev main_call2_call0_v38 : Ref sig .tc := ⟨.hbm, 97, rfl⟩
abbrev main_call2_call0_v39 : Ref sig .tc := ⟨.hbm, 98, rfl⟩
abbrev main_call2_call0_v40 : Ref sig .tc := ⟨.hbm, 99, rfl⟩
abbrev main_call2_call0_c_9 : Ref sig .tc := ⟨.hbm, 100, rfl⟩
abbrev main_call2_call0_v41 : Ref sig .tc := ⟨.hbm, 101, rfl⟩
abbrev main_call2_call0_v42 : Ref sig .tc := ⟨.hbm, 102, rfl⟩
abbrev main_call2_call0_c_10 : Ref sig .tc := ⟨.hbm, 103, rfl⟩
abbrev main_call2_call0_v43 : Ref sig .tc := ⟨.hbm, 104, rfl⟩
abbrev main_call2_call0_v44 : Ref sig .tc := ⟨.hbm, 105, rfl⟩
abbrev main_call2_call0_v45 : Ref sig .tc := ⟨.hbm, 106, rfl⟩
abbrev main_call2_call0_v46 : Ref sig .tc := ⟨.hbm, 107, rfl⟩
abbrev main_call2_call0_v47 : Ref sig .tc := ⟨.hbm, 108, rfl⟩
abbrev main_call2_call0_c_11 : Ref sig .tc := ⟨.hbm, 109, rfl⟩
abbrev main_call2_call0_v48 : Ref sig .tc := ⟨.hbm, 110, rfl⟩
abbrev main_call2_call0_v49 : Ref sig .tc := ⟨.hbm, 111, rfl⟩
abbrev main_call2_call0_c_12 : Ref sig .tc := ⟨.hbm, 112, rfl⟩
abbrev main_call2_call0_v50 : Ref sig .tc := ⟨.hbm, 113, rfl⟩
abbrev main_call2_call0_v51 : Ref sig .tc := ⟨.hbm, 114, rfl⟩
abbrev main_call2_call0_v52 : Ref sig .tc := ⟨.hbm, 115, rfl⟩
abbrev main_call2_call0_v53 : Ref sig .tc := ⟨.hbm, 116, rfl⟩
abbrev main_call2_call0_v54 : Ref sig .tc := ⟨.hbm, 117, rfl⟩
abbrev main_call2_call0_c_13 : Ref sig .tc := ⟨.hbm, 118, rfl⟩
abbrev main_call2_call0_v55 : Ref sig .tc := ⟨.hbm, 119, rfl⟩
abbrev main_call2_call0_v56 : Ref sig .tc := ⟨.hbm, 120, rfl⟩
abbrev main_call2_call0_c_14 : Ref sig .tc := ⟨.hbm, 121, rfl⟩
abbrev main_call2_call0_v57 : Ref sig .tc := ⟨.hbm, 122, rfl⟩
abbrev main_call2_call0_v58 : Ref sig .tc := ⟨.hbm, 123, rfl⟩
abbrev main_call2_call0_v59 : Ref sig .tc := ⟨.hbm, 124, rfl⟩
abbrev main_call2_call0_v60 : Ref sig .tc := ⟨.hbm, 125, rfl⟩
abbrev main_call2_call0_v61 : Ref sig .tc := ⟨.hbm, 126, rfl⟩
abbrev main_call2_call0_c_15 : Ref sig .tc := ⟨.hbm, 127, rfl⟩
abbrev main_call2_call0_v62 : Ref sig .tc := ⟨.hbm, 128, rfl⟩
abbrev main_call2_call0_v63 : Ref sig .tc := ⟨.hbm, 129, rfl⟩
abbrev main_call2_call0_c_16 : Ref sig .tc := ⟨.hbm, 130, rfl⟩
abbrev main_call2_call0_v64 : Ref sig .tc := ⟨.hbm, 131, rfl⟩
abbrev main_call2_call0_v65 : Ref sig .tc := ⟨.hbm, 132, rfl⟩
abbrev main_call2_call0_v66 : Ref sig .tc := ⟨.hbm, 133, rfl⟩
abbrev main_call2_call0_v67 : Ref sig .tc := ⟨.hbm, 134, rfl⟩
abbrev main_call2_call0_v68 : Ref sig .tc := ⟨.hbm, 135, rfl⟩
abbrev main_call2_call0_v69 : Ref sig .tc := ⟨.hbm, 136, rfl⟩
abbrev main_call2_call0_v70 : Ref sig .tc := ⟨.hbm, 137, rfl⟩
abbrev main_call2_call0_v71 : Ref sig .tc := ⟨.hbm, 138, rfl⟩
abbrev main_call2_call0_c_17 : Ref sig .tc := ⟨.hbm, 139, rfl⟩
abbrev main_call2_call0_v72 : Ref sig .tc := ⟨.hbm, 140, rfl⟩
abbrev main_call2_call0_v73 : Ref sig .tc := ⟨.hbm, 141, rfl⟩
abbrev main_call2_call0_v74 : Ref sig .tc := ⟨.hbm, 142, rfl⟩
abbrev main_call2_call0_c_18 : Ref sig .tc := ⟨.hbm, 143, rfl⟩
abbrev main_call2_call0_v75 : Ref sig .tc := ⟨.hbm, 144, rfl⟩
abbrev main_call2_call0_v76 : Ref sig .tc := ⟨.hbm, 145, rfl⟩
abbrev main_call2_call0_c_19 : Ref sig .tc := ⟨.hbm, 146, rfl⟩
abbrev main_call2_call0_v77 : Ref sig .tc := ⟨.hbm, 147, rfl⟩
abbrev main_call2_call0_v78 : Ref sig .tc := ⟨.hbm, 148, rfl⟩
abbrev main_call2_call0_v79 : Ref sig .tc := ⟨.hbm, 149, rfl⟩
abbrev main_call2_call0_v80 : Ref sig .tc := ⟨.hbm, 150, rfl⟩
abbrev main_call2_call0_v81 : Ref sig .tc := ⟨.hbm, 151, rfl⟩
abbrev main_call2_call0_c_20 : Ref sig .tc := ⟨.hbm, 152, rfl⟩
abbrev main_call2_call0_v82 : Ref sig .tc := ⟨.hbm, 153, rfl⟩
abbrev main_call2_call0_v83 : Ref sig .tc := ⟨.hbm, 154, rfl⟩
abbrev main_call2_call0_c_21 : Ref sig .tc := ⟨.hbm, 155, rfl⟩
abbrev main_call2_call0_v84 : Ref sig .tc := ⟨.hbm, 156, rfl⟩
abbrev main_call2_call0_v85 : Ref sig .tc := ⟨.hbm, 157, rfl⟩
abbrev main_call2_call0_v86 : Ref sig .tc := ⟨.hbm, 158, rfl⟩
abbrev main_call2_call0_v87 : Ref sig .tc := ⟨.hbm, 159, rfl⟩
abbrev main_call2_call0_v88 : Ref sig .tc := ⟨.hbm, 160, rfl⟩
abbrev main_call2_call0_c_22 : Ref sig .tc := ⟨.hbm, 161, rfl⟩
abbrev main_call2_call0_v89 : Ref sig .tc := ⟨.hbm, 162, rfl⟩
abbrev main_call2_call0_v90 : Ref sig .tc := ⟨.hbm, 163, rfl⟩
abbrev main_call2_call0_c_23 : Ref sig .tc := ⟨.hbm, 164, rfl⟩
abbrev main_call2_call0_v91 : Ref sig .tc := ⟨.hbm, 165, rfl⟩
abbrev main_call2_call0_v92 : Ref sig .tc := ⟨.hbm, 166, rfl⟩
abbrev main_call2_call0_v93 : Ref sig .tc := ⟨.hbm, 167, rfl⟩
abbrev main_call2_call0_v94 : Ref sig .tc := ⟨.hbm, 168, rfl⟩
abbrev main_call2_call0_v95 : Ref sig .tc := ⟨.hbm, 169, rfl⟩
abbrev main_call2_call0_c_24 : Ref sig .tc := ⟨.hbm, 170, rfl⟩
abbrev main_call2_call0_v96 : Ref sig .tc := ⟨.hbm, 171, rfl⟩
abbrev main_call2_call0_v97 : Ref sig .tc := ⟨.hbm, 172, rfl⟩
abbrev main_call2_call0_c_25 : Ref sig .tc := ⟨.hbm, 173, rfl⟩
abbrev main_call2_call0_v98 : Ref sig .tc := ⟨.hbm, 174, rfl⟩
abbrev main_call2_call0_v99 : Ref sig .tc := ⟨.hbm, 175, rfl⟩
abbrev main_call2_call0_v100 : Ref sig .tc := ⟨.hbm, 176, rfl⟩
abbrev main_call2_call0_v101 : Ref sig .tc := ⟨.hbm, 177, rfl⟩
abbrev main_call2_call0_v102 : Ref sig .tc := ⟨.hbm, 178, rfl⟩
abbrev main_call2_call0_v103 : Ref sig .tc := ⟨.hbm, 179, rfl⟩
abbrev main_call2_call0_v104 : Ref sig .tc := ⟨.hbm, 180, rfl⟩
abbrev main_call2_call0_v105 : Ref sig .tc := ⟨.hbm, 181, rfl⟩
abbrev main_call2_call0_c_26 : Ref sig .tc := ⟨.hbm, 182, rfl⟩
abbrev main_call2_call0_v106 : Ref sig .tc := ⟨.hbm, 183, rfl⟩
abbrev main_call2_call0_v107 : Ref sig .tc := ⟨.hbm, 184, rfl⟩
abbrev main_call2_call0_v108 : Ref sig .tc := ⟨.hbm, 185, rfl⟩
abbrev main_call2_call0_c_27 : Ref sig .tc := ⟨.hbm, 186, rfl⟩
abbrev main_call2_call0_v109 : Ref sig .tc := ⟨.hbm, 187, rfl⟩
abbrev main_call2_call0_v110 : Ref sig .tc := ⟨.hbm, 188, rfl⟩
abbrev main_call2_call0_c_28 : Ref sig .tc := ⟨.hbm, 189, rfl⟩
abbrev main_call2_call0_v111 : Ref sig .tc := ⟨.hbm, 190, rfl⟩
abbrev main_call2_call0_v112 : Ref sig .tc := ⟨.hbm, 191, rfl⟩
abbrev main_call2_call0_v113 : Ref sig .tc := ⟨.hbm, 192, rfl⟩
abbrev main_call2_call0_v114 : Ref sig .tc := ⟨.hbm, 193, rfl⟩
abbrev main_call2_call0_v115 : Ref sig .tc := ⟨.hbm, 194, rfl⟩
abbrev main_call2_call0_c_29 : Ref sig .tc := ⟨.hbm, 195, rfl⟩
abbrev main_call2_call0_v116 : Ref sig .tc := ⟨.hbm, 196, rfl⟩
abbrev main_call2_call0_v117 : Ref sig .tc := ⟨.hbm, 197, rfl⟩
abbrev main_call2_call0_c_30 : Ref sig .tc := ⟨.hbm, 198, rfl⟩
abbrev main_call2_call0_v118 : Ref sig .tc := ⟨.hbm, 199, rfl⟩
abbrev main_call2_call0_v119 : Ref sig .tc := ⟨.hbm, 200, rfl⟩
abbrev main_call2_call0_v120 : Ref sig .tc := ⟨.hbm, 201, rfl⟩
abbrev main_call2_call0_v121 : Ref sig .tc := ⟨.hbm, 202, rfl⟩
abbrev main_call2_call0_v122 : Ref sig .tc := ⟨.hbm, 203, rfl⟩
abbrev main_call2_call0_c_31 : Ref sig .tc := ⟨.hbm, 204, rfl⟩
abbrev main_call2_call0_v123 : Ref sig .tc := ⟨.hbm, 205, rfl⟩
abbrev main_call2_call0_v124 : Ref sig .tc := ⟨.hbm, 206, rfl⟩
abbrev main_call2_call0_c_32 : Ref sig .tc := ⟨.hbm, 207, rfl⟩
abbrev main_call2_call0_v125 : Ref sig .tc := ⟨.hbm, 208, rfl⟩
abbrev main_call2_call0_v126 : Ref sig .tc := ⟨.hbm, 209, rfl⟩
abbrev main_call2_call0_v127 : Ref sig .tc := ⟨.hbm, 210, rfl⟩
abbrev main_call2_call0_v128 : Ref sig .tc := ⟨.hbm, 211, rfl⟩
abbrev main_call2_call0_v129 : Ref sig .tc := ⟨.hbm, 212, rfl⟩
abbrev main_call2_call0_c_33 : Ref sig .tc := ⟨.hbm, 213, rfl⟩
abbrev main_call2_call0_v130 : Ref sig .tc := ⟨.hbm, 214, rfl⟩
abbrev main_call2_call0_v131 : Ref sig .tc := ⟨.hbm, 215, rfl⟩
abbrev main_call2_call0_c_34 : Ref sig .tc := ⟨.hbm, 216, rfl⟩
abbrev main_call2_call0_v132 : Ref sig .tc := ⟨.hbm, 217, rfl⟩
abbrev main_call2_call0_v133 : Ref sig .tc := ⟨.hbm, 218, rfl⟩
abbrev main_call2_call0_v134 : Ref sig .tc := ⟨.hbm, 219, rfl⟩
abbrev main_call2_call0_v135 : Ref sig .tc := ⟨.hbm, 220, rfl⟩
abbrev main_call2_call0_v136 : Ref sig .tc := ⟨.hbm, 221, rfl⟩
abbrev main_call2_call0_v137 : Ref sig .tc := ⟨.hbm, 222, rfl⟩
abbrev main_call2_call0_v138 : Ref sig .tc := ⟨.hbm, 223, rfl⟩
abbrev main_call2_call0_v139 : Ref sig .tc := ⟨.hbm, 224, rfl⟩
abbrev main_call2_call0_c_35 : Ref sig .tc := ⟨.hbm, 225, rfl⟩
abbrev main_call2_call0_v140 : Ref sig .tc := ⟨.hbm, 226, rfl⟩
abbrev main_call2_call0_v141 : Ref sig .tc := ⟨.hbm, 227, rfl⟩
abbrev main_call2_call0_v142 : Ref sig .tc := ⟨.hbm, 228, rfl⟩
abbrev main_call2_call0_c_36 : Ref sig .tc := ⟨.hbm, 229, rfl⟩
abbrev main_call2_call0_v143 : Ref sig .tc := ⟨.hbm, 230, rfl⟩
abbrev main_call2_call0_v144 : Ref sig .tc := ⟨.hbm, 231, rfl⟩
abbrev main_call2_call0_c_37 : Ref sig .tc := ⟨.hbm, 232, rfl⟩
abbrev main_call2_call0_v145 : Ref sig .tc := ⟨.hbm, 233, rfl⟩
abbrev main_call2_call0_v146 : Ref sig .tc := ⟨.hbm, 234, rfl⟩
abbrev main_call2_call0_v147 : Ref sig .tc := ⟨.hbm, 235, rfl⟩
abbrev main_call2_call0_v148 : Ref sig .tc := ⟨.hbm, 236, rfl⟩
abbrev main_call2_call0_v149 : Ref sig .tc := ⟨.hbm, 237, rfl⟩
abbrev main_call2_call0_c_38 : Ref sig .tc := ⟨.hbm, 238, rfl⟩
abbrev main_call2_call0_v150 : Ref sig .tc := ⟨.hbm, 239, rfl⟩
abbrev main_call2_call0_v151 : Ref sig .tc := ⟨.hbm, 240, rfl⟩
abbrev main_call2_call0_c_39 : Ref sig .tc := ⟨.hbm, 241, rfl⟩
abbrev main_call2_call0_v152 : Ref sig .tc := ⟨.hbm, 242, rfl⟩
abbrev main_call2_call0_v153 : Ref sig .tc := ⟨.hbm, 243, rfl⟩
abbrev main_call2_call0_v154 : Ref sig .tc := ⟨.hbm, 244, rfl⟩
abbrev main_call2_call0_v155 : Ref sig .tc := ⟨.hbm, 245, rfl⟩
abbrev main_call2_call0_v156 : Ref sig .tc := ⟨.hbm, 246, rfl⟩
abbrev main_call2_call0_c_40 : Ref sig .tc := ⟨.hbm, 247, rfl⟩
abbrev main_call2_call0_v157 : Ref sig .tc := ⟨.hbm, 248, rfl⟩
abbrev main_call2_call0_v158 : Ref sig .tc := ⟨.hbm, 249, rfl⟩
abbrev main_call2_call0_c_41 : Ref sig .tc := ⟨.hbm, 250, rfl⟩
abbrev main_call2_call0_v159 : Ref sig .tc := ⟨.hbm, 251, rfl⟩
abbrev main_call2_call0_v160 : Ref sig .tc := ⟨.hbm, 252, rfl⟩
abbrev main_call2_call0_v161 : Ref sig .tc := ⟨.hbm, 253, rfl⟩
abbrev main_call2_call0_v162 : Ref sig .tc := ⟨.hbm, 254, rfl⟩
abbrev main_call2_call0_v163 : Ref sig .tc := ⟨.hbm, 255, rfl⟩
abbrev main_call2_call0_c_42 : Ref sig .tc := ⟨.hbm, 256, rfl⟩
abbrev main_call2_call0_v164 : Ref sig .tc := ⟨.hbm, 257, rfl⟩
abbrev main_call2_call0_v165 : Ref sig .tc := ⟨.hbm, 258, rfl⟩
abbrev main_call2_call0_c_43 : Ref sig .tc := ⟨.hbm, 259, rfl⟩
abbrev main_call2_call0_v166 : Ref sig .tc := ⟨.hbm, 260, rfl⟩
abbrev main_call2_call0_v167 : Ref sig .tc := ⟨.hbm, 261, rfl⟩
abbrev main_call2_call0_v168 : Ref sig .tc := ⟨.hbm, 262, rfl⟩
abbrev main_call2_call0_v169 : Ref sig .tc := ⟨.hbm, 263, rfl⟩
abbrev main_call2_call0_v170 : Ref sig .tc := ⟨.hbm, 264, rfl⟩
abbrev main_call2_v19_0 : Ref sig .tc := ⟨.hbm, 265, rfl⟩
abbrev main_call2_call0_v172 : Ref sig .tc := ⟨.hbm, 266, rfl⟩
abbrev main_call2_call0_v173 : Ref sig .tc := ⟨.hbm, 267, rfl⟩
abbrev main_call2_call0_c_44 : Ref sig .tc := ⟨.hbm, 268, rfl⟩
abbrev main_call2_call0_v174 : Ref sig .tc := ⟨.hbm, 269, rfl⟩
abbrev main_call2_v19_1 : Ref sig .tc := ⟨.hbm, 270, rfl⟩
abbrev main_call2_v20 : Ref sig .tc := ⟨.hbm, 271, rfl⟩
abbrev main_call2_c_2 : Ref sig .tc := ⟨.hbm, 272, rfl⟩
abbrev main_call2_v21 : Ref sig .tc := ⟨.hbm, 273, rfl⟩
abbrev main_call2_v22 : Ref sig .tc := ⟨.hbm, 274, rfl⟩
abbrev main_call2_c_3 : Ref sig .tc := ⟨.hbm, 275, rfl⟩
abbrev main_call2_v23 : Ref sig .tc := ⟨.hbm, 276, rfl⟩
abbrev main_call2_v24 : Ref sig .tc := ⟨.hbm, 277, rfl⟩
abbrev main_call2_v25 : Ref sig .tc := ⟨.hbm, 278, rfl⟩
abbrev main_call2_cst : Ref sig .tc := ⟨.hbm, 279, rfl⟩
abbrev main_call2_v26 : Ref sig .tc := ⟨.hbm, 280, rfl⟩
abbrev main_call2_v27 : Ref sig .tc := ⟨.hbm, 281, rfl⟩
abbrev main_call2_v28 : Ref sig .tc := ⟨.hbm, 282, rfl⟩
abbrev main_call2_v29 : Ref sig .tc := ⟨.hbm, 283, rfl⟩
abbrev main_call2_v30 : Ref sig .tc := ⟨.hbm, 284, rfl⟩
abbrev main_call2_v31 : Ref sig .tc := ⟨.hbm, 285, rfl⟩
abbrev main_call2_v32 : Ref sig .tc := ⟨.hbm, 286, rfl⟩
abbrev main_call2_v33 : Ref sig .tc := ⟨.hbm, 287, rfl⟩
abbrev main_v14 : Ref sig .tc := ⟨.hbm, 288, rfl⟩
abbrev main_cst_5 : Ref sig .tc := ⟨.hbm, 289, rfl⟩
abbrev main_v15 : Ref sig .tc := ⟨.hbm, 290, rfl⟩
abbrev main_v16 : Ref sig .tc := ⟨.hbm, 291, rfl⟩
abbrev main_cst_6 : Ref sig .tc := ⟨.hbm, 292, rfl⟩
abbrev main_v17 : Ref sig .tc := ⟨.hbm, 293, rfl⟩
abbrev main_v18 : Ref sig .tc := ⟨.hbm, 294, rfl⟩
abbrev main_cst_7 : Ref sig .tc := ⟨.hbm, 295, rfl⟩
abbrev main_v19 : Ref sig .tc := ⟨.hbm, 296, rfl⟩
abbrev main_v20 : Ref sig .tc := ⟨.hbm, 297, rfl⟩
abbrev main_v21 : Ref sig .tc := ⟨.hbm, 298, rfl⟩
abbrev main_v22 : Ref sig .tc := ⟨.hbm, 299, rfl⟩
abbrev main_v23 : Ref sig .tc := ⟨.hbm, 300, rfl⟩
abbrev main_v24 : Ref sig .tc := ⟨.hbm, 301, rfl⟩
abbrev main_cst_8 : Ref sig .tc := ⟨.hbm, 302, rfl⟩
abbrev main_v25 : Ref sig .tc := ⟨.hbm, 303, rfl⟩
abbrev main_v26 : Ref sig .tc := ⟨.hbm, 304, rfl⟩
abbrev main_v27 : Ref sig .tc := ⟨.hbm, 305, rfl⟩
abbrev main_c_9 : Ref sig .tc := ⟨.hbm, 306, rfl⟩
abbrev main_c_10 : Ref sig .tc := ⟨.hbm, 307, rfl⟩
abbrev main_v28 : Ref sig .tc := ⟨.hbm, 308, rfl⟩
abbrev main_v29 : Ref sig .tc := ⟨.hbm, 309, rfl⟩
abbrev main_v30 : Ref sig .tc := ⟨.hbm, 310, rfl⟩
abbrev main_c_11 : Ref sig .tc := ⟨.hbm, 311, rfl⟩
abbrev main_v31 : Ref sig .tc := ⟨.hbm, 312, rfl⟩
abbrev main_v32 : Ref sig .tc := ⟨.hbm, 313, rfl⟩
abbrev main_v33 : Ref sig .tc := ⟨.hbm, 314, rfl⟩
abbrev main_v34 : Ref sig .tc := ⟨.hbm, 315, rfl⟩
abbrev main_cst_12 : Ref sig .tc := ⟨.hbm, 316, rfl⟩
abbrev main_cst_13 : Ref sig .tc := ⟨.hbm, 317, rfl⟩
abbrev main_call3_v0 : Ref sig .tc := ⟨.hbm, 318, rfl⟩
abbrev main_call3_v1 : Ref sig .tc := ⟨.hbm, 319, rfl⟩
abbrev main_call3_v2 : Ref sig .tc := ⟨.hbm, 320, rfl⟩
abbrev main_call3_v3 : Ref sig .tc := ⟨.hbm, 321, rfl⟩
abbrev main_call3_v4 : Ref sig .tc := ⟨.hbm, 322, rfl⟩
abbrev main_call3_v5 : Ref sig .tc := ⟨.hbm, 323, rfl⟩
abbrev main_call3_v6 : Ref sig .tc := ⟨.hbm, 324, rfl⟩
abbrev main_call3_v7 : Ref sig .tc := ⟨.hbm, 325, rfl⟩
abbrev main_call3_v8 : Ref sig .tc := ⟨.hbm, 326, rfl⟩
abbrev main_call3_v9 : Ref sig .tc := ⟨.hbm, 327, rfl⟩
abbrev main_call3_c : Ref sig .tc := ⟨.hbm, 328, rfl⟩
abbrev main_call3_v10 : Ref sig .tc := ⟨.hbm, 329, rfl⟩
abbrev main_call3_v11 : Ref sig .tc := ⟨.hbm, 330, rfl⟩
abbrev main_call3_c_0 : Ref sig .tc := ⟨.hbm, 331, rfl⟩
abbrev main_call3_v12 : Ref sig .tc := ⟨.hbm, 332, rfl⟩
abbrev main_call3_v13 : Ref sig .tc := ⟨.hbm, 333, rfl⟩
abbrev main_call3_v14 : Ref sig .tc := ⟨.hbm, 334, rfl⟩
abbrev main_call3_c_1 : Ref sig .tc := ⟨.hbm, 335, rfl⟩
abbrev main_call3_v15 : Ref sig .tc := ⟨.hbm, 336, rfl⟩
abbrev main_call3_v16 : Ref sig .tc := ⟨.hbm, 337, rfl⟩
abbrev main_call3_v17 : Ref sig .tc := ⟨.hbm, 338, rfl⟩
abbrev main_call3_v18 : Ref sig .tc := ⟨.hbm, 339, rfl⟩
abbrev main_call3_call0_v0 : Ref sig .tc := ⟨.hbm, 340, rfl⟩
abbrev main_call3_call0_c : Ref sig .tc := ⟨.hbm, 341, rfl⟩
abbrev main_call3_call0_v1 : Ref sig .tc := ⟨.hbm, 342, rfl⟩
abbrev main_call3_call0_v2 : Ref sig .tc := ⟨.hbm, 343, rfl⟩
abbrev main_call3_call0_v3 : Ref sig .tc := ⟨.hbm, 344, rfl⟩
abbrev main_call3_call0_v4 : Ref sig .tc := ⟨.hbm, 345, rfl⟩
abbrev main_call3_call0_v5 : Ref sig .tc := ⟨.hbm, 346, rfl⟩
abbrev main_call3_call0_v6 : Ref sig .tc := ⟨.hbm, 347, rfl⟩
abbrev main_call3_call0_c_0 : Ref sig .tc := ⟨.hbm, 348, rfl⟩
abbrev main_call3_call0_v7 : Ref sig .tc := ⟨.hbm, 349, rfl⟩
abbrev main_call3_call0_v8 : Ref sig .tc := ⟨.hbm, 350, rfl⟩
abbrev main_call3_call0_c_1 : Ref sig .tc := ⟨.hbm, 351, rfl⟩
abbrev main_call3_call0_v9 : Ref sig .tc := ⟨.hbm, 352, rfl⟩
abbrev main_call3_call0_v10 : Ref sig .tc := ⟨.hbm, 353, rfl⟩
abbrev main_call3_call0_v11 : Ref sig .tc := ⟨.hbm, 354, rfl⟩
abbrev main_call3_call0_v12 : Ref sig .tc := ⟨.hbm, 355, rfl⟩
abbrev main_call3_call0_v13 : Ref sig .tc := ⟨.hbm, 356, rfl⟩
abbrev main_call3_call0_c_2 : Ref sig .tc := ⟨.hbm, 357, rfl⟩
abbrev main_call3_call0_v14 : Ref sig .tc := ⟨.hbm, 358, rfl⟩
abbrev main_call3_call0_v15 : Ref sig .tc := ⟨.hbm, 359, rfl⟩
abbrev main_call3_call0_c_3 : Ref sig .tc := ⟨.hbm, 360, rfl⟩
abbrev main_call3_call0_v16 : Ref sig .tc := ⟨.hbm, 361, rfl⟩
abbrev main_call3_call0_v17 : Ref sig .tc := ⟨.hbm, 362, rfl⟩
abbrev main_call3_call0_v18 : Ref sig .tc := ⟨.hbm, 363, rfl⟩
abbrev main_call3_call0_v19 : Ref sig .tc := ⟨.hbm, 364, rfl⟩
abbrev main_call3_call0_v20 : Ref sig .tc := ⟨.hbm, 365, rfl⟩
abbrev main_call3_call0_c_4 : Ref sig .tc := ⟨.hbm, 366, rfl⟩
abbrev main_call3_call0_v21 : Ref sig .tc := ⟨.hbm, 367, rfl⟩
abbrev main_call3_call0_v22 : Ref sig .tc := ⟨.hbm, 368, rfl⟩
abbrev main_call3_call0_c_5 : Ref sig .tc := ⟨.hbm, 369, rfl⟩
abbrev main_call3_call0_v23 : Ref sig .tc := ⟨.hbm, 370, rfl⟩
abbrev main_call3_call0_v24 : Ref sig .tc := ⟨.hbm, 371, rfl⟩
abbrev main_call3_call0_v25 : Ref sig .tc := ⟨.hbm, 372, rfl⟩
abbrev main_call3_call0_v26 : Ref sig .tc := ⟨.hbm, 373, rfl⟩
abbrev main_call3_call0_v27 : Ref sig .tc := ⟨.hbm, 374, rfl⟩
abbrev main_call3_call0_c_6 : Ref sig .tc := ⟨.hbm, 375, rfl⟩
abbrev main_call3_call0_v28 : Ref sig .tc := ⟨.hbm, 376, rfl⟩
abbrev main_call3_call0_v29 : Ref sig .tc := ⟨.hbm, 377, rfl⟩
abbrev main_call3_call0_c_7 : Ref sig .tc := ⟨.hbm, 378, rfl⟩
abbrev main_call3_call0_v30 : Ref sig .tc := ⟨.hbm, 379, rfl⟩
abbrev main_call3_call0_v31 : Ref sig .tc := ⟨.hbm, 380, rfl⟩
abbrev main_call3_call0_v32 : Ref sig .tc := ⟨.hbm, 381, rfl⟩
abbrev main_call3_call0_v33 : Ref sig .tc := ⟨.hbm, 382, rfl⟩
abbrev main_call3_call0_v34 : Ref sig .tc := ⟨.hbm, 383, rfl⟩
abbrev main_call3_call0_v35 : Ref sig .tc := ⟨.hbm, 384, rfl⟩
abbrev main_call3_call0_v36 : Ref sig .tc := ⟨.hbm, 385, rfl⟩
abbrev main_call3_call0_v37 : Ref sig .tc := ⟨.hbm, 386, rfl⟩
abbrev main_call3_call0_c_8 : Ref sig .tc := ⟨.hbm, 387, rfl⟩
abbrev main_call3_call0_v38 : Ref sig .tc := ⟨.hbm, 388, rfl⟩
abbrev main_call3_call0_v39 : Ref sig .tc := ⟨.hbm, 389, rfl⟩
abbrev main_call3_call0_v40 : Ref sig .tc := ⟨.hbm, 390, rfl⟩
abbrev main_call3_call0_c_9 : Ref sig .tc := ⟨.hbm, 391, rfl⟩
abbrev main_call3_call0_v41 : Ref sig .tc := ⟨.hbm, 392, rfl⟩
abbrev main_call3_call0_v42 : Ref sig .tc := ⟨.hbm, 393, rfl⟩
abbrev main_call3_call0_c_10 : Ref sig .tc := ⟨.hbm, 394, rfl⟩
abbrev main_call3_call0_v43 : Ref sig .tc := ⟨.hbm, 395, rfl⟩
abbrev main_call3_call0_v44 : Ref sig .tc := ⟨.hbm, 396, rfl⟩
abbrev main_call3_call0_v45 : Ref sig .tc := ⟨.hbm, 397, rfl⟩
abbrev main_call3_call0_v46 : Ref sig .tc := ⟨.hbm, 398, rfl⟩
abbrev main_call3_call0_v47 : Ref sig .tc := ⟨.hbm, 399, rfl⟩
abbrev main_call3_call0_c_11 : Ref sig .tc := ⟨.hbm, 400, rfl⟩
abbrev main_call3_call0_v48 : Ref sig .tc := ⟨.hbm, 401, rfl⟩
abbrev main_call3_call0_v49 : Ref sig .tc := ⟨.hbm, 402, rfl⟩
abbrev main_call3_call0_c_12 : Ref sig .tc := ⟨.hbm, 403, rfl⟩
abbrev main_call3_call0_v50 : Ref sig .tc := ⟨.hbm, 404, rfl⟩
abbrev main_call3_call0_v51 : Ref sig .tc := ⟨.hbm, 405, rfl⟩
abbrev main_call3_call0_v52 : Ref sig .tc := ⟨.hbm, 406, rfl⟩
abbrev main_call3_call0_v53 : Ref sig .tc := ⟨.hbm, 407, rfl⟩
abbrev main_call3_call0_v54 : Ref sig .tc := ⟨.hbm, 408, rfl⟩
abbrev main_call3_call0_c_13 : Ref sig .tc := ⟨.hbm, 409, rfl⟩
abbrev main_call3_call0_v55 : Ref sig .tc := ⟨.hbm, 410, rfl⟩
abbrev main_call3_call0_v56 : Ref sig .tc := ⟨.hbm, 411, rfl⟩
abbrev main_call3_call0_c_14 : Ref sig .tc := ⟨.hbm, 412, rfl⟩
abbrev main_call3_call0_v57 : Ref sig .tc := ⟨.hbm, 413, rfl⟩
abbrev main_call3_call0_v58 : Ref sig .tc := ⟨.hbm, 414, rfl⟩
abbrev main_call3_call0_v59 : Ref sig .tc := ⟨.hbm, 415, rfl⟩
abbrev main_call3_call0_v60 : Ref sig .tc := ⟨.hbm, 416, rfl⟩
abbrev main_call3_call0_v61 : Ref sig .tc := ⟨.hbm, 417, rfl⟩
abbrev main_call3_call0_c_15 : Ref sig .tc := ⟨.hbm, 418, rfl⟩
abbrev main_call3_call0_v62 : Ref sig .tc := ⟨.hbm, 419, rfl⟩
abbrev main_call3_call0_v63 : Ref sig .tc := ⟨.hbm, 420, rfl⟩
abbrev main_call3_call0_c_16 : Ref sig .tc := ⟨.hbm, 421, rfl⟩
abbrev main_call3_call0_v64 : Ref sig .tc := ⟨.hbm, 422, rfl⟩
abbrev main_call3_call0_v65 : Ref sig .tc := ⟨.hbm, 423, rfl⟩
abbrev main_call3_call0_v66 : Ref sig .tc := ⟨.hbm, 424, rfl⟩
abbrev main_call3_call0_v67 : Ref sig .tc := ⟨.hbm, 425, rfl⟩
abbrev main_call3_call0_v68 : Ref sig .tc := ⟨.hbm, 426, rfl⟩
abbrev main_call3_call0_v69 : Ref sig .tc := ⟨.hbm, 427, rfl⟩
abbrev main_call3_call0_v70 : Ref sig .tc := ⟨.hbm, 428, rfl⟩
abbrev main_call3_call0_v71 : Ref sig .tc := ⟨.hbm, 429, rfl⟩
abbrev main_call3_call0_c_17 : Ref sig .tc := ⟨.hbm, 430, rfl⟩
abbrev main_call3_call0_v72 : Ref sig .tc := ⟨.hbm, 431, rfl⟩
abbrev main_call3_call0_v73 : Ref sig .tc := ⟨.hbm, 432, rfl⟩
abbrev main_call3_call0_v74 : Ref sig .tc := ⟨.hbm, 433, rfl⟩
abbrev main_call3_call0_c_18 : Ref sig .tc := ⟨.hbm, 434, rfl⟩
abbrev main_call3_call0_v75 : Ref sig .tc := ⟨.hbm, 435, rfl⟩
abbrev main_call3_call0_v76 : Ref sig .tc := ⟨.hbm, 436, rfl⟩
abbrev main_call3_call0_c_19 : Ref sig .tc := ⟨.hbm, 437, rfl⟩
abbrev main_call3_call0_v77 : Ref sig .tc := ⟨.hbm, 438, rfl⟩
abbrev main_call3_call0_v78 : Ref sig .tc := ⟨.hbm, 439, rfl⟩
abbrev main_call3_call0_v79 : Ref sig .tc := ⟨.hbm, 440, rfl⟩
abbrev main_call3_call0_v80 : Ref sig .tc := ⟨.hbm, 441, rfl⟩
abbrev main_call3_call0_v81 : Ref sig .tc := ⟨.hbm, 442, rfl⟩
abbrev main_call3_call0_c_20 : Ref sig .tc := ⟨.hbm, 443, rfl⟩
abbrev main_call3_call0_v82 : Ref sig .tc := ⟨.hbm, 444, rfl⟩
abbrev main_call3_call0_v83 : Ref sig .tc := ⟨.hbm, 445, rfl⟩
abbrev main_call3_call0_c_21 : Ref sig .tc := ⟨.hbm, 446, rfl⟩
abbrev main_call3_call0_v84 : Ref sig .tc := ⟨.hbm, 447, rfl⟩
abbrev main_call3_call0_v85 : Ref sig .tc := ⟨.hbm, 448, rfl⟩
abbrev main_call3_call0_v86 : Ref sig .tc := ⟨.hbm, 449, rfl⟩
abbrev main_call3_call0_v87 : Ref sig .tc := ⟨.hbm, 450, rfl⟩
abbrev main_call3_call0_v88 : Ref sig .tc := ⟨.hbm, 451, rfl⟩
abbrev main_call3_call0_c_22 : Ref sig .tc := ⟨.hbm, 452, rfl⟩
abbrev main_call3_call0_v89 : Ref sig .tc := ⟨.hbm, 453, rfl⟩
abbrev main_call3_call0_v90 : Ref sig .tc := ⟨.hbm, 454, rfl⟩
abbrev main_call3_call0_c_23 : Ref sig .tc := ⟨.hbm, 455, rfl⟩
abbrev main_call3_call0_v91 : Ref sig .tc := ⟨.hbm, 456, rfl⟩
abbrev main_call3_call0_v92 : Ref sig .tc := ⟨.hbm, 457, rfl⟩
abbrev main_call3_call0_v93 : Ref sig .tc := ⟨.hbm, 458, rfl⟩
abbrev main_call3_call0_v94 : Ref sig .tc := ⟨.hbm, 459, rfl⟩
abbrev main_call3_call0_v95 : Ref sig .tc := ⟨.hbm, 460, rfl⟩
abbrev main_call3_call0_c_24 : Ref sig .tc := ⟨.hbm, 461, rfl⟩
abbrev main_call3_call0_v96 : Ref sig .tc := ⟨.hbm, 462, rfl⟩
abbrev main_call3_call0_v97 : Ref sig .tc := ⟨.hbm, 463, rfl⟩
abbrev main_call3_call0_c_25 : Ref sig .tc := ⟨.hbm, 464, rfl⟩
abbrev main_call3_call0_v98 : Ref sig .tc := ⟨.hbm, 465, rfl⟩
abbrev main_call3_call0_v99 : Ref sig .tc := ⟨.hbm, 466, rfl⟩
abbrev main_call3_call0_v100 : Ref sig .tc := ⟨.hbm, 467, rfl⟩
abbrev main_call3_call0_v101 : Ref sig .tc := ⟨.hbm, 468, rfl⟩
abbrev main_call3_call0_v102 : Ref sig .tc := ⟨.hbm, 469, rfl⟩
abbrev main_call3_call0_v103 : Ref sig .tc := ⟨.hbm, 470, rfl⟩
abbrev main_call3_call0_v104 : Ref sig .tc := ⟨.hbm, 471, rfl⟩
abbrev main_call3_call0_v105 : Ref sig .tc := ⟨.hbm, 472, rfl⟩
abbrev main_call3_call0_c_26 : Ref sig .tc := ⟨.hbm, 473, rfl⟩
abbrev main_call3_call0_v106 : Ref sig .tc := ⟨.hbm, 474, rfl⟩
abbrev main_call3_call0_v107 : Ref sig .tc := ⟨.hbm, 475, rfl⟩
abbrev main_call3_call0_v108 : Ref sig .tc := ⟨.hbm, 476, rfl⟩
abbrev main_call3_call0_c_27 : Ref sig .tc := ⟨.hbm, 477, rfl⟩
abbrev main_call3_call0_v109 : Ref sig .tc := ⟨.hbm, 478, rfl⟩
abbrev main_call3_call0_v110 : Ref sig .tc := ⟨.hbm, 479, rfl⟩
abbrev main_call3_call0_c_28 : Ref sig .tc := ⟨.hbm, 480, rfl⟩
abbrev main_call3_call0_v111 : Ref sig .tc := ⟨.hbm, 481, rfl⟩
abbrev main_call3_call0_v112 : Ref sig .tc := ⟨.hbm, 482, rfl⟩
abbrev main_call3_call0_v113 : Ref sig .tc := ⟨.hbm, 483, rfl⟩
abbrev main_call3_call0_v114 : Ref sig .tc := ⟨.hbm, 484, rfl⟩
abbrev main_call3_call0_v115 : Ref sig .tc := ⟨.hbm, 485, rfl⟩
abbrev main_call3_call0_c_29 : Ref sig .tc := ⟨.hbm, 486, rfl⟩
abbrev main_call3_call0_v116 : Ref sig .tc := ⟨.hbm, 487, rfl⟩
abbrev main_call3_call0_v117 : Ref sig .tc := ⟨.hbm, 488, rfl⟩
abbrev main_call3_call0_c_30 : Ref sig .tc := ⟨.hbm, 489, rfl⟩
abbrev main_call3_call0_v118 : Ref sig .tc := ⟨.hbm, 490, rfl⟩
abbrev main_call3_call0_v119 : Ref sig .tc := ⟨.hbm, 491, rfl⟩
abbrev main_call3_call0_v120 : Ref sig .tc := ⟨.hbm, 492, rfl⟩
abbrev main_call3_call0_v121 : Ref sig .tc := ⟨.hbm, 493, rfl⟩
abbrev main_call3_call0_v122 : Ref sig .tc := ⟨.hbm, 494, rfl⟩
abbrev main_call3_call0_c_31 : Ref sig .tc := ⟨.hbm, 495, rfl⟩
abbrev main_call3_call0_v123 : Ref sig .tc := ⟨.hbm, 496, rfl⟩
abbrev main_call3_call0_v124 : Ref sig .tc := ⟨.hbm, 497, rfl⟩
abbrev main_call3_call0_c_32 : Ref sig .tc := ⟨.hbm, 498, rfl⟩
abbrev main_call3_call0_v125 : Ref sig .tc := ⟨.hbm, 499, rfl⟩
abbrev main_call3_call0_v126 : Ref sig .tc := ⟨.hbm, 500, rfl⟩
abbrev main_call3_call0_v127 : Ref sig .tc := ⟨.hbm, 501, rfl⟩
abbrev main_call3_call0_v128 : Ref sig .tc := ⟨.hbm, 502, rfl⟩
abbrev main_call3_call0_v129 : Ref sig .tc := ⟨.hbm, 503, rfl⟩
abbrev main_call3_call0_c_33 : Ref sig .tc := ⟨.hbm, 504, rfl⟩
abbrev main_call3_call0_v130 : Ref sig .tc := ⟨.hbm, 505, rfl⟩
abbrev main_call3_call0_v131 : Ref sig .tc := ⟨.hbm, 506, rfl⟩
abbrev main_call3_call0_c_34 : Ref sig .tc := ⟨.hbm, 507, rfl⟩
abbrev main_call3_call0_v132 : Ref sig .tc := ⟨.hbm, 508, rfl⟩
abbrev main_call3_call0_v133 : Ref sig .tc := ⟨.hbm, 509, rfl⟩
abbrev main_call3_call0_v134 : Ref sig .tc := ⟨.hbm, 510, rfl⟩
abbrev main_call3_call0_v135 : Ref sig .tc := ⟨.hbm, 511, rfl⟩
abbrev main_call3_call0_v136 : Ref sig .tc := ⟨.hbm, 512, rfl⟩
abbrev main_call3_call0_v137 : Ref sig .tc := ⟨.hbm, 513, rfl⟩
abbrev main_call3_call0_v138 : Ref sig .tc := ⟨.hbm, 514, rfl⟩
abbrev main_call3_call0_v139 : Ref sig .tc := ⟨.hbm, 515, rfl⟩
abbrev main_call3_call0_c_35 : Ref sig .tc := ⟨.hbm, 516, rfl⟩
abbrev main_call3_call0_v140 : Ref sig .tc := ⟨.hbm, 517, rfl⟩
abbrev main_call3_call0_v141 : Ref sig .tc := ⟨.hbm, 518, rfl⟩
abbrev main_call3_call0_v142 : Ref sig .tc := ⟨.hbm, 519, rfl⟩
abbrev main_call3_call0_c_36 : Ref sig .tc := ⟨.hbm, 520, rfl⟩
abbrev main_call3_call0_v143 : Ref sig .tc := ⟨.hbm, 521, rfl⟩
abbrev main_call3_call0_v144 : Ref sig .tc := ⟨.hbm, 522, rfl⟩
abbrev main_call3_call0_c_37 : Ref sig .tc := ⟨.hbm, 523, rfl⟩
abbrev main_call3_call0_v145 : Ref sig .tc := ⟨.hbm, 524, rfl⟩
abbrev main_call3_call0_v146 : Ref sig .tc := ⟨.hbm, 525, rfl⟩
abbrev main_call3_call0_v147 : Ref sig .tc := ⟨.hbm, 526, rfl⟩
abbrev main_call3_call0_v148 : Ref sig .tc := ⟨.hbm, 527, rfl⟩
abbrev main_call3_call0_v149 : Ref sig .tc := ⟨.hbm, 528, rfl⟩
abbrev main_call3_call0_c_38 : Ref sig .tc := ⟨.hbm, 529, rfl⟩
abbrev main_call3_call0_v150 : Ref sig .tc := ⟨.hbm, 530, rfl⟩
abbrev main_call3_call0_v151 : Ref sig .tc := ⟨.hbm, 531, rfl⟩
abbrev main_call3_call0_c_39 : Ref sig .tc := ⟨.hbm, 532, rfl⟩
abbrev main_call3_call0_v152 : Ref sig .tc := ⟨.hbm, 533, rfl⟩
abbrev main_call3_call0_v153 : Ref sig .tc := ⟨.hbm, 534, rfl⟩
abbrev main_call3_call0_v154 : Ref sig .tc := ⟨.hbm, 535, rfl⟩
abbrev main_call3_call0_v155 : Ref sig .tc := ⟨.hbm, 536, rfl⟩
abbrev main_call3_call0_v156 : Ref sig .tc := ⟨.hbm, 537, rfl⟩
abbrev main_call3_call0_c_40 : Ref sig .tc := ⟨.hbm, 538, rfl⟩
abbrev main_call3_call0_v157 : Ref sig .tc := ⟨.hbm, 539, rfl⟩
abbrev main_call3_call0_v158 : Ref sig .tc := ⟨.hbm, 540, rfl⟩
abbrev main_call3_call0_c_41 : Ref sig .tc := ⟨.hbm, 541, rfl⟩
abbrev main_call3_call0_v159 : Ref sig .tc := ⟨.hbm, 542, rfl⟩
abbrev main_call3_call0_v160 : Ref sig .tc := ⟨.hbm, 543, rfl⟩
abbrev main_call3_call0_v161 : Ref sig .tc := ⟨.hbm, 544, rfl⟩
abbrev main_call3_call0_v162 : Ref sig .tc := ⟨.hbm, 545, rfl⟩
abbrev main_call3_call0_v163 : Ref sig .tc := ⟨.hbm, 546, rfl⟩
abbrev main_call3_call0_c_42 : Ref sig .tc := ⟨.hbm, 547, rfl⟩
abbrev main_call3_call0_v164 : Ref sig .tc := ⟨.hbm, 548, rfl⟩
abbrev main_call3_call0_v165 : Ref sig .tc := ⟨.hbm, 549, rfl⟩
abbrev main_call3_call0_c_43 : Ref sig .tc := ⟨.hbm, 550, rfl⟩
abbrev main_call3_call0_v166 : Ref sig .tc := ⟨.hbm, 551, rfl⟩
abbrev main_call3_call0_v167 : Ref sig .tc := ⟨.hbm, 552, rfl⟩
abbrev main_call3_call0_v168 : Ref sig .tc := ⟨.hbm, 553, rfl⟩
abbrev main_call3_call0_v169 : Ref sig .tc := ⟨.hbm, 554, rfl⟩
abbrev main_call3_call0_v170 : Ref sig .tc := ⟨.hbm, 555, rfl⟩
abbrev main_call3_v19_0 : Ref sig .tc := ⟨.hbm, 556, rfl⟩
abbrev main_call3_call0_v172 : Ref sig .tc := ⟨.hbm, 557, rfl⟩
abbrev main_call3_call0_v173 : Ref sig .tc := ⟨.hbm, 558, rfl⟩
abbrev main_call3_call0_c_44 : Ref sig .tc := ⟨.hbm, 559, rfl⟩
abbrev main_call3_call0_v174 : Ref sig .tc := ⟨.hbm, 560, rfl⟩
abbrev main_call3_v19_1 : Ref sig .tc := ⟨.hbm, 561, rfl⟩
abbrev main_call3_v20 : Ref sig .tc := ⟨.hbm, 562, rfl⟩
abbrev main_call3_c_2 : Ref sig .tc := ⟨.hbm, 563, rfl⟩
abbrev main_call3_v21 : Ref sig .tc := ⟨.hbm, 564, rfl⟩
abbrev main_call3_v22 : Ref sig .tc := ⟨.hbm, 565, rfl⟩
abbrev main_call3_c_3 : Ref sig .tc := ⟨.hbm, 566, rfl⟩
abbrev main_call3_v23 : Ref sig .tc := ⟨.hbm, 567, rfl⟩
abbrev main_call3_v24 : Ref sig .tc := ⟨.hbm, 568, rfl⟩
abbrev main_call3_v25 : Ref sig .tc := ⟨.hbm, 569, rfl⟩
abbrev main_call3_cst : Ref sig .tc := ⟨.hbm, 570, rfl⟩
abbrev main_call3_v26 : Ref sig .tc := ⟨.hbm, 571, rfl⟩
abbrev main_call3_v27 : Ref sig .tc := ⟨.hbm, 572, rfl⟩
abbrev main_call3_v28 : Ref sig .tc := ⟨.hbm, 573, rfl⟩
abbrev main_call3_v29 : Ref sig .tc := ⟨.hbm, 574, rfl⟩
abbrev main_call3_v30 : Ref sig .tc := ⟨.hbm, 575, rfl⟩
abbrev main_call3_v31 : Ref sig .tc := ⟨.hbm, 576, rfl⟩
abbrev main_call3_v32 : Ref sig .tc := ⟨.hbm, 577, rfl⟩
abbrev main_call3_v33 : Ref sig .tc := ⟨.hbm, 578, rfl⟩
abbrev main_v35 : Ref sig .tc := ⟨.hbm, 579, rfl⟩
abbrev main_cst_14 : Ref sig .tc := ⟨.hbm, 580, rfl⟩
abbrev main_v36 : Ref sig .tc := ⟨.hbm, 581, rfl⟩
abbrev main_v37 : Ref sig .tc := ⟨.hbm, 582, rfl⟩
abbrev main_cst_15 : Ref sig .tc := ⟨.hbm, 583, rfl⟩
abbrev main_v38 : Ref sig .tc := ⟨.hbm, 584, rfl⟩
abbrev main_v39 : Ref sig .tc := ⟨.hbm, 585, rfl⟩
abbrev main_cst_16 : Ref sig .tc := ⟨.hbm, 586, rfl⟩
abbrev main_v40 : Ref sig .tc := ⟨.hbm, 587, rfl⟩
abbrev main_v41 : Ref sig .tc := ⟨.hbm, 588, rfl⟩
abbrev main_v42 : Ref sig .tc := ⟨.hbm, 589, rfl⟩
abbrev main_v43 : Ref sig .tc := ⟨.hbm, 590, rfl⟩
abbrev main_v44 : Ref sig .tc := ⟨.hbm, 591, rfl⟩
abbrev main_v45 : Ref sig .tc := ⟨.hbm, 592, rfl⟩
abbrev main_cst_17 : Ref sig .tc := ⟨.hbm, 593, rfl⟩
abbrev main_v46 : Ref sig .tc := ⟨.hbm, 594, rfl⟩
abbrev main_v47 : Ref sig .tc := ⟨.hbm, 595, rfl⟩
abbrev main_v48 : Ref sig .tc := ⟨.hbm, 596, rfl⟩
abbrev main_v49 : Ref sig .tc := ⟨.hbm, 597, rfl⟩
abbrev main_call4_v0 : Ref sig .tc := ⟨.hbm, 598, rfl⟩
abbrev main_call4_cst : Ref sig .tc := ⟨.hbm, 599, rfl⟩
abbrev main_call4_c : Ref sig .tc := ⟨.hbm, 600, rfl⟩
abbrev main_call4_v1_0 : Ref sig .tc := ⟨.hbm, 601, rfl⟩
abbrev main_v50 : Ref sig .tc := ⟨.hbm, 602, rfl⟩
abbrev main_call5_v0 : Ref sig .tc := ⟨.hbm, 603, rfl⟩
abbrev main_call5_cst : Ref sig .tc := ⟨.hbm, 604, rfl⟩
abbrev main_call5_c : Ref sig .tc := ⟨.hbm, 605, rfl⟩
abbrev main_call5_v1_0 : Ref sig .tc := ⟨.hbm, 606, rfl⟩
abbrev main_v51 : Ref sig .tc := ⟨.hbm, 607, rfl⟩
abbrev main_v52 : Ref sig .tc := ⟨.hbm, 608, rfl⟩
abbrev main_call6_c : Ref sig .tc := ⟨.hbm, 609, rfl⟩
abbrev main_call6_v0 : Ref sig .tc := ⟨.hbm, 610, rfl⟩
abbrev main_call6_v1 : Ref sig .tc := ⟨.hbm, 611, rfl⟩
abbrev main_call6_c_0 : Ref sig .tc := ⟨.hbm, 612, rfl⟩
abbrev main_call6_v2 : Ref sig .tc := ⟨.hbm, 613, rfl⟩
abbrev main_call6_v3 : Ref sig .tc := ⟨.hbm, 614, rfl⟩
abbrev main_call6_v4 : Ref sig .tc := ⟨.hbm, 615, rfl⟩
abbrev main_call6_v5 : Ref sig .tc := ⟨.hbm, 616, rfl⟩
abbrev main_call6_c_1 : Ref sig .tc := ⟨.hbm, 617, rfl⟩
abbrev main_call6_c_2 : Ref sig .tc := ⟨.hbm, 618, rfl⟩
abbrev main_call6_v6 : Ref sig .tc := ⟨.hbm, 619, rfl⟩
abbrev main_call6_v7 : Ref sig .tc := ⟨.hbm, 620, rfl⟩
abbrev main_call6_v8 : Ref sig .tc := ⟨.hbm, 621, rfl⟩
abbrev main_call6_v9 : Ref sig .tc := ⟨.hbm, 622, rfl⟩
abbrev main_call6_v10 : Ref sig .tc := ⟨.hbm, 623, rfl⟩
abbrev main_call6_v11 : Ref sig .tc := ⟨.hbm, 624, rfl⟩
abbrev main_call6_c_3 : Ref sig .tc := ⟨.hbm, 625, rfl⟩
abbrev main_call6_v12 : Ref sig .tc := ⟨.hbm, 626, rfl⟩
abbrev main_call6_v13 : Ref sig .tc := ⟨.hbm, 627, rfl⟩
abbrev main_call6_cst : Ref sig .tc := ⟨.hbm, 628, rfl⟩
abbrev main_call6_v14 : Ref sig .tc := ⟨.hbm, 629, rfl⟩
abbrev main_v53 : Ref sig .tc := ⟨.hbm, 630, rfl⟩
abbrev main_v54 : Ref sig .tc := ⟨.hbm, 631, rfl⟩
abbrev main_v55 : Ref sig .tc := ⟨.hbm, 632, rfl⟩
abbrev main_call7_c : Ref sig .tc := ⟨.hbm, 633, rfl⟩
abbrev main_call7_v0 : Ref sig .tc := ⟨.hbm, 634, rfl⟩
abbrev main_call7_v1 : Ref sig .tc := ⟨.hbm, 635, rfl⟩
abbrev main_call7_c_0 : Ref sig .tc := ⟨.hbm, 636, rfl⟩
abbrev main_call7_v2 : Ref sig .tc := ⟨.hbm, 637, rfl⟩
abbrev main_call7_v3 : Ref sig .tc := ⟨.hbm, 638, rfl⟩
abbrev main_call7_v4 : Ref sig .tc := ⟨.hbm, 639, rfl⟩
abbrev main_call7_v5 : Ref sig .tc := ⟨.hbm, 640, rfl⟩
abbrev main_call7_c_1 : Ref sig .tc := ⟨.hbm, 641, rfl⟩
abbrev main_call7_c_2 : Ref sig .tc := ⟨.hbm, 642, rfl⟩
abbrev main_call7_v6 : Ref sig .tc := ⟨.hbm, 643, rfl⟩
abbrev main_call7_v7 : Ref sig .tc := ⟨.hbm, 644, rfl⟩
abbrev main_call7_v8 : Ref sig .tc := ⟨.hbm, 645, rfl⟩
abbrev main_call7_v9 : Ref sig .tc := ⟨.hbm, 646, rfl⟩
abbrev main_call7_v10 : Ref sig .tc := ⟨.hbm, 647, rfl⟩
abbrev main_call7_v11 : Ref sig .tc := ⟨.hbm, 648, rfl⟩
abbrev main_call7_c_3 : Ref sig .tc := ⟨.hbm, 649, rfl⟩
abbrev main_call7_v12 : Ref sig .tc := ⟨.hbm, 650, rfl⟩
abbrev main_call7_v13 : Ref sig .tc := ⟨.hbm, 651, rfl⟩
abbrev main_call7_cst : Ref sig .tc := ⟨.hbm, 652, rfl⟩
abbrev main_call7_v14 : Ref sig .tc := ⟨.hbm, 653, rfl⟩
abbrev main_v56 : Ref sig .tc := ⟨.hbm, 654, rfl⟩
abbrev main_v57 : Ref sig .tc := ⟨.hbm, 655, rfl⟩
abbrev main_v58 : Ref sig .tc := ⟨.hbm, 656, rfl⟩
abbrev main_call8_cst : Ref sig .tc := ⟨.hbm, 657, rfl⟩
abbrev main_call8_v0 : Ref sig .tc := ⟨.hbm, 658, rfl⟩
abbrev main_call8_v1 : Ref sig .tc := ⟨.hbm, 659, rfl⟩
abbrev main_call8_v2 : Ref sig .tc := ⟨.hbm, 660, rfl⟩
abbrev main_call8_v3 : Ref sig .tc := ⟨.hbm, 661, rfl⟩
abbrev main_call8_v4 : Ref sig .tc := ⟨.hbm, 662, rfl⟩
abbrev main_call8_v5 : Ref sig .tc := ⟨.hbm, 663, rfl⟩
abbrev main_call8_v6 : Ref sig .tc := ⟨.hbm, 664, rfl⟩
abbrev main_call8_v7 : Ref sig .tc := ⟨.hbm, 665, rfl⟩
abbrev main_call8_v8 : Ref sig .tc := ⟨.hbm, 666, rfl⟩
abbrev main_call8_v9 : Ref sig .tc := ⟨.hbm, 667, rfl⟩
abbrev main_call8_v10 : Ref sig .tc := ⟨.hbm, 668, rfl⟩
abbrev main_call8_v11 : Ref sig .tc := ⟨.hbm, 669, rfl⟩
abbrev main_v59 : Ref sig .tc := ⟨.hbm, 670, rfl⟩

abbrev nD : Nat := 1
abbrev τ : Topo := Topo.v7x

variable {F : FTy → Type} [FloatOps F]
-- ==== Proof.RefOps.lean ====
module

public import proofs.«01_k».proof.Defs
public import proofs.«01_k».proof.Proof.Gen.ReferenceIdeal
public import Idealize.ShloMosaic.Lib.StableHlo.Run
public import Idealize.ShloMosaic.Lib.Pipeline.Frame

@[expose] public section

noncomputable section

/-! The reference program as lists of its host operations, in the pieces its functions and the rounds of its
    random generator give: each function's body is one list over its arguments and its record of buffers, so a
    function called twice is written once. -/

namespace Cert.Proof.Ref

open Cert.ReferenceIdeal Cert.ReferenceIdeal.Gen Idealize.ShloMosaic Idealize.ShloMosaic.TcCoe Idealize.SL.Sem Idealize.ShloMosaic.StableHlo

/-- A straight line of the reference's host operations. -/
abbrev Ops (F : FTy → Type) [FloatOps F] := List (HloOp τ sig (Elt F))

variable {F : FTy → Type} [FloatOps F]

/-- Operations 1 to 24 of the cipher. -/
def cipher0 (a0 a1 : TRef sig ⟨S_, .i32⟩) (a2 a3 : TRef sig ⟨S4096x4096, .i32⟩) (φ : fn_threefry2x32.Bufs) : Ops F :=
  [ TRef.binary a0 a1 φ.v0 xori,
    TRef.nullary φ.c (constantI S_ 32 466688986#32),
    TRef.binary φ.v0 φ.c φ.v1 xori,
    TRef.unary a0 φ.v2 (broadcastInDim S4096x4096 ![] bcast_S_S4096x4096),
    TRef.binary a2 φ.v2 φ.v3 addi,
    TRef.unary a1 φ.v4 (broadcastInDim S4096x4096 ![] bcast_S_S4096x4096),
    TRef.binary a3 φ.v4 φ.v5 addi,
    TRef.binary φ.v3 φ.v5 φ.v6 addi,
    TRef.nullary φ.c_0 (constantI S_ 32 13#32),
    TRef.unary φ.c_0 φ.v7 (broadcastInDim S4096x4096 ![] bcast_S_S4096x4096),
    TRef.binary φ.v5 φ.v7 φ.v8 Host.shli,
    TRef.nullary φ.c_1 (constantI S_ 32 19#32),
    TRef.unary φ.c_1 φ.v9 (broadcastInDim S4096x4096 ![] bcast_S_S4096x4096),
    TRef.binary φ.v5 φ.v9 φ.v10 Host.shrui,
    TRef.binary φ.v8 φ.v10 φ.v11 ori,
    TRef.binary φ.v6 φ.v11 φ.v12 xori,
    TRef.binary φ.v6 φ.v12 φ.v13 addi,
    TRef.nullary φ.c_2 (constantI S_ 32 15#32),
    TRef.unary φ.c_2 φ.v14 (broadcastInDim S4096x4096 ![] bcast_S_S4096x4096),
    TRef.binary φ.v12 φ.v14 φ.v15 Host.shli,
    TRef.nullary φ.c_3 (constantI S_ 32 17#32),
    TRef.unary φ.c_3 φ.v16 (broadcastInDim S4096x4096 ![] bcast_S_S4096x4096),
    TRef.binary φ.v12 φ.v16 φ.v17 Host.shrui,
    TRef.binary φ.v15 φ.v17 φ.v18 ori ]

/-- Operations 25 to 48 of the cipher. -/
def cipher1 (a0 a1 : TRef sig ⟨S_, .i32⟩) (a2 a3 : TRef sig ⟨S4096x4096, .i32⟩) (φ : fn_threefry2x32.Bufs) : Ops F :=
  [ TRef.binary φ.v13 φ.v18 φ.v19 xori,
    TRef.binary φ.v13 φ.v19 φ.v20 addi,
    TRef.nullary φ.c_4 (constantI S_ 32 26#32),
    TRef.unary φ.c_4 φ.v21 (broadcastInDim S4096x4096 ![] bcast_S_S4096x4096),
    TRef.binary φ.v19 φ.v21 φ.v22 Host.shli,
    TRef.nullary φ.c_5 (constantI S_ 32 6#32),
    TRef.unary φ.c_5 φ.v23 (broadcastInDim S4096x4096 ![] bcast_S_S4096x4096),
    TRef.binary φ.v19 φ.v23 φ.v24 Host.shrui,
    TRef.binary φ.v22 φ.v24 φ.v25 ori,
    TRef.binary φ.v20 φ.v25 φ.v26 xori,
    TRef.binary φ.v20 φ.v26 φ.v27 addi,
    TRef.nullary φ.c_6 (constantI S_ 32 6#32),
    TRef.unary φ.c_6 φ.v28 (broadcastInDim S4096x4096 ![] bcast_S_S4096x4096),
    TRef.binary φ.v26 φ.v28 φ.v29 Host.shli,
    TRef.nullary φ.c_7 (constantI S_ 32 26#32),
    TRef.unary φ.c_7 φ.v30 (broadcastInDim S4096x4096 ![] bcast_S_S4096x4096),
    TRef.binary φ.v26 φ.v30 φ.v31 Host.shrui,
    TRef.binary φ.v29 φ.v31 φ.v32 ori,
    TRef.binary φ.v27 φ.v32 φ.v33 xori,
    TRef.unary a1 φ.v34 (broadcastInDim S4096x4096 ![] bcast_S_S4096x4096),
    TRef.binary φ.v27 φ.v34 φ.v35 addi,
    TRef.unary φ.v1 φ.v36 (broadcastInDim S4096x4096 ![] bcast_S_S4096x4096),
    TRef.binary φ.v33 φ.v36 φ.v37 addi,
    TRef.nullary φ.c_8 (constantI S_ 32 1#32) ]

/-- Operations 49 to 72 of the cipher. -/
def cipher2 (a0 a1 : TRef sig ⟨S_, .i32⟩) (a2 a3 : TRef sig ⟨S4096x4096, .i32⟩) (φ : fn_threefry2x32.Bufs) : Ops F :=
  [ TRef.unary φ.c_8 φ.v38 (broadcastInDim S4096x4096 ![] bcast_S_S4096x4096),
    TRef.binary φ.v37 φ.v38 φ.v39 addi,
    TRef.binary φ.v35 φ.v39 φ.v40 addi,
    TRef.nullary φ.c_9 (constantI S_ 32 17#32),
    TRef.unary φ.c_9 φ.v41 (broadcastInDim S4096x4096 ![] bcast_S_S4096x4096),
    TRef.binary φ.v39 φ.v41 φ.v42 Host.shli,
    TRef.nullary φ.c_10 (constantI S_ 32 15#32),
    TRef.unary φ.c_10 φ.v43 (broadcastInDim S4096x4096 ![] bcast_S_S4096x4096),
    TRef.binary φ.v39 φ.v43 φ.v44 Host.shrui,
    TRef.binary φ.v42 φ.v44 φ.v45 ori,
    TRef.binary φ.v40 φ.v45 φ.v46 xori,
    TRef.binary φ.v40 φ.v46 φ.v47 addi,
    TRef.nullary φ.c_11 (constantI S_ 32 29#32),
    TRef.unary φ.c_11 φ.v48 (broadcastInDim S4096x4096 ![] bcast_S_S4096x4096),
    TRef.binary φ.v46 φ.v48 φ.v49 Host.shli,
    TRef.nullary φ.c_12 (constantI S_ 32 3#32),
    TRef.unary φ.c_12 φ.v50 (broadcastInDim S4096x4096 ![] bcast_S_S4096x4096),
    TRef.binary φ.v46 φ.v50 φ.v51 Host.shrui,
    TRef.binary φ.v49 φ.v51 φ.v52 ori,
    TRef.binary φ.v47 φ.v52 φ.v53 xori,
    TRef.binary φ.v47 φ.v53 φ.v54 addi,
    TRef.nullary φ.c_13 (constantI S_ 32 16#32),
    TRef.unary φ.c_13 φ.v55 (broadcastInDim S4096x4096 ![] bcast_S_S4096x4096),
    TRef.binary φ.v53 φ.v55 φ.v56 Host.shli ]

/-- Operations 73 to 96 of the cipher. -/
def cipher3 (a0 a1 : TRef sig ⟨S_, .i32⟩) (a2 a3 : TRef sig ⟨S4096x4096, .i32⟩) (φ : fn_threefry2x32.Bufs) : Ops F :=
  [ TRef.nullary φ.c_14 (constantI S_ 32 16#32),
    TRef.unary φ.c_14 φ.v57 (broadcastInDim S4096x4096 ![] bcast_S_S4096x4096),
    TRef.binary φ.v53 φ.v57 φ.v58 Host.shrui,
    TRef.binary φ.v56 φ.v58 φ.v59 ori,
    TRef.binary φ.v54 φ.v59 φ.v60 xori,
    TRef.binary φ.v54 φ.v60 φ.v61 addi,
    TRef.nullary φ.c_15 (constantI S_ 32 24#32),
    TRef.unary φ.c_15 φ.v62 (broadcastInDim S4096x4096 ![] bcast_S_S4096x4096),
    TRef.binary φ.v60 φ.v62 φ.v63 Host.shli,
    TRef.nullary φ.c_16 (constantI S_ 32 8#32),
    TRef.unary φ.c_16 φ.v64 (broadcastInDim S4096x4096 ![] bcast_S_S4096x4096),
    TRef.binary φ.v60 φ.v64 φ.v65 Host.shrui,
    TRef.binary φ.v63 φ.v65 φ.v66 ori,
    TRef.binary φ.v61 φ.v66 φ.v67 xori,
    TRef.unary φ.v1 φ.v68 (broadcastInDim S4096x4096 ![] bcast_S_S4096x4096),
    TRef.binary φ.v61 φ.v68 φ.v69 addi,
    TRef.unary a0 φ.v70 (broadcastInDim S4096x4096 ![] bcast_S_S4096x4096),
    TRef.binary φ.v67 φ.v70 φ.v71 addi,
    TRef.nullary φ.c_17 (constantI S_ 32 2#32),
    TRef.unary φ.c_17 φ.v72 (broadcastInDim S4096x4096 ![] bcast_S_S4096x4096),
    TRef.binary φ.v71 φ.v72 φ.v73 addi,
    TRef.binary φ.v69 φ.v73 φ.v74 addi,
    TRef.nullary φ.c_18 (constantI S_ 32 13#32),
    TRef.unary φ.c_18 φ.v75 (broadcastInDim S4096x4096 ![] bcast_S_S4096x4096) ]

/-- Operations 97 to 120 of the cipher. -/
def cipher4 (a0 a1 : TRef sig ⟨S_, .i32⟩) (a2 a3 : TRef sig ⟨S4096x4096, .i32⟩) (φ : fn_threefry2x32.Bufs) : Ops F :=
  [ TRef.binary φ.v73 φ.v75 φ.v76 Host.shli,
    TRef.nullary φ.c_19 (constantI S_ 32 19#32),
    TRef.unary φ.c_19 φ.v77 (broadcastInDim S4096x4096 ![] bcast_S_S4096x4096),
    TRef.binary φ.v73 φ.v77 φ.v78 Host.shrui,
    TRef.binary φ.v76 φ.v78 φ.v79 ori,
    TRef.binary φ.v74 φ.v79 φ.v80 xori,
    TRef.binary φ.v74 φ.v80 φ.v81 addi,
    TRef.nullary φ.c_20 (constantI S_ 32 15#32),
    TRef.unary φ.c_20 φ.v82 (broadcastInDim S4096x4096 ![] bcast_S_S4096x4096),
    TRef.binary φ.v80 φ.v82 φ.v83 Host.shli,
    TRef.nullary φ.c_21 (constantI S_ 32 17#32),
    TRef.unary φ.c_21 φ.v84 (broadcastInDim S4096x4096 ![] bcast_S_S4096x4096),
    TRef.binary φ.v80 φ.v84 φ.v85 Host.shrui,
    TRef.binary φ.v83 φ.v85 φ.v86 ori,
    TRef.binary φ.v81 φ.v86 φ.v87 xori,
    TRef.binary φ.v81 φ.v87 φ.v88 addi,
    TRef.nullary φ.c_22 (constantI S_ 32 26#32),
    TRef.unary φ.c_22 φ.v89 (broadcastInDim S4096x4096 ![] bcast_S_S4096x4096),
    TRef.binary φ.v87 φ.v89 φ.v90 Host.shli,
    TRef.nullary φ.c_23 (constantI S_ 32 6#32),
    TRef.unary φ.c_23 φ.v91 (broadcastInDim S4096x4096 ![] bcast_S_S4096x4096),
    TRef.binary φ.v87 φ.v91 φ.v92 Host.shrui,
    TRef.binary φ.v90 φ.v92 φ.v93 ori,
    TRef.binary φ.v88 φ.v93 φ.v94 xori ]

/-- Operations 121 to 144 of the cipher. -/
def cipher5 (a0 a1 : TRef sig ⟨S_, .i32⟩) (a2 a3 : TRef sig ⟨S4096x4096, .i32⟩) (φ : fn_threefry2x32.Bufs) : Ops F :=
  [ TRef.binary φ.v88 φ.v94 φ.v95 addi,
    TRef.nullary φ.c_24 (constantI S_ 32 6#32),
    TRef.unary φ.c_24 φ.v96 (broadcastInDim S4096x4096 ![] bcast_S_S4096x4096),
    TRef.binary φ.v94 φ.v96 φ.v97 Host.shli,
    TRef.nullary φ.c_25 (constantI S_ 32 26#32),
    TRef.unary φ.c_25 φ.v98 (broadcastInDim S4096x4096 ![] bcast_S_S4096x4096),
    TRef.binary φ.v94 φ.v98 φ.v99 Host.shrui,
    TRef.binary φ.v97 φ.v99 φ.v100 ori,
    TRef.binary φ.v95 φ.v100 φ.v101 xori,
    TRef.unary a0 φ.v102 (broadcastInDim S4096x4096 ![] bcast_S_S4096x4096),
    TRef.binary φ.v95 φ.v102 φ.v103 addi,
    TRef.unary a1 φ.v104 (broadcastInDim S4096x4096 ![] bcast_S_S4096x4096),
    TRef.binary φ.v101 φ.v104 φ.v105 addi,
    TRef.nullary φ.c_26 (constantI S_ 32 3#32),
    TRef.unary φ.c_26 φ.v106 (broadcastInDim S4096x4096 ![] bcast_S_S4096x4096),
    TRef.binary φ.v105 φ.v106 φ.v107 addi,
    TRef.binary φ.v103 φ.v107 φ.v108 addi,
    TRef.nullary φ.c_27 (constantI S_ 32 17#32),
    TRef.unary φ.c_27 φ.v109 (broadcastInDim S4096x4096 ![] bcast_S_S4096x4096),
    TRef.binary φ.v107 φ.v109 φ.v110 Host.shli,
    TRef.nullary φ.c_28 (constantI S_ 32 15#32),
    TRef.unary φ.c_28 φ.v111 (broadcastInDim S4096x4096 ![] bcast_S_S4096x4096),
    TRef.binary φ.v107 φ.v111 φ.v112 Host.shrui,
    TRef.binary φ.v110 φ.v112 φ.v113 ori ]

/-- Operations 145 to 168 of the cipher. -/
def cipher6 (a0 a1 : TRef sig ⟨S_, .i32⟩) (a2 a3 : TRef sig ⟨S4096x4096, .i32⟩) (φ : fn_threefry2x32.Bufs) : Ops F :=
  [ TRef.binary φ.v108 φ.v113 φ.v114 xori,
    TRef.binary φ.v108 φ.v114 φ.v115 addi,
    TRef.nullary φ.c_29 (constantI S_ 32 29#32),
    TRef.unary φ.c_29 φ.v116 (broadcastInDim S4096x4096 ![] bcast_S_S4096x4096),
    TRef.binary φ.v114 φ.v116 φ.v117 Host.shli,
    TRef.nullary φ.c_30 (constantI S_ 32 3#32),
    TRef.unary φ.c_30 φ.v118 (broadcastInDim S4096x4096 ![] bcast_S_S4096x4096),
    TRef.binary φ.v114 φ.v118 φ.v119 Host.shrui,
    TRef.binary φ.v117 φ.v119 φ.v120 ori,
    TRef.binary φ.v115 φ.v120 φ.v121 xori,
    TRef.binary φ.v115 φ.v121 φ.v122 addi,
    TRef.nullary φ.c_31 (constantI S_ 32 16#32),
    TRef.unary φ.c_31 φ.v123 (broadcastInDim S4096x4096 ![] bcast_S_S4096x4096),
    TRef.binary φ.v121 φ.v123 φ.v124 Host.shli,
    TRef.nullary φ.c_32 (constantI S_ 32 16#32),
    TRef.unary φ.c_32 φ.v125 (broadcastInDim S4096x4096 ![] bcast_S_S4096x4096),
    TRef.binary φ.v121 φ.v125 φ.v126 Host.shrui,
    TRef.binary φ.v124 φ.v126 φ.v127 ori,
    TRef.binary φ.v122 φ.v127 φ.v128 xori,
    TRef.binary φ.v122 φ.v128 φ.v129 addi,
    TRef.nullary φ.c_33 (constantI S_ 32 24#32),
    TRef.unary φ.c_33 φ.v130 (broadcastInDim S4096x4096 ![] bcast_S_S4096x4096),
    TRef.binary φ.v128 φ.v130 φ.v131 Host.shli,
    TRef.nullary φ.c_34 (constantI S_ 32 8#32) ]

/-- Operations 169 to 192 of the cipher. -/
def cipher7 (a0 a1 : TRef sig ⟨S_, .i32⟩) (a2 a3 : TRef sig ⟨S4096x4096, .i32⟩) (φ : fn_threefry2x32.Bufs) : Ops F :=
  [ TRef.unary φ.c_34 φ.v132 (broadcastInDim S4096x4096 ![] bcast_S_S4096x4096),
    TRef.binary φ.v128 φ.v132 φ.v133 Host.shrui,
    TRef.binary φ.v131 φ.v133 φ.v134 ori,
    TRef.binary φ.v129 φ.v134 φ.v135 xori,
    TRef.unary a1 φ.v136 (broadcastInDim S4096x4096 ![] bcast_S_S4096x4096),
    TRef.binary φ.v129 φ.v136 φ.v137 addi,
    TRef.unary φ.v1 φ.v138 (broadcastInDim S4096x4096 ![] bcast_S_S4096x4096),
    TRef.binary φ.v135 φ.v138 φ.v139 addi,
    TRef.nullary φ.c_35 (constantI S_ 32 4#32),
    TRef.unary φ.c_35 φ.v140 (broadcastInDim S4096x4096 ![] bcast_S_S4096x4096),
    TRef.binary φ.v139 φ.v140 φ.v141 addi,
    TRef.binary φ.v137 φ.v141 φ.v142 addi,
    TRef.nullary φ.c_36 (constantI S_ 32 13#32),
    TRef.unary φ.c_36 φ.v143 (broadcastInDim S4096x4096 ![] bcast_S_S4096x4096),
    TRef.binary φ.v141 φ.v143 φ.v144 Host.shli,
    TRef.nullary φ.c_37 (constantI S_ 32 19#32),
    TRef.unary φ.c_37 φ.v145 (broadcastInDim S4096x4096 ![] bcast_S_S4096x4096),
    TRef.binary φ.v141 φ.v145 φ.v146 Host.shrui,
    TRef.binary φ.v144 φ.v146 φ.v147 ori,
    TRef.binary φ.v142 φ.v147 φ.v148 xori,
    TRef.binary φ.v142 φ.v148 φ.v149 addi,
    TRef.nullary φ.c_38 (constantI S_ 32 15#32),
    TRef.unary φ.c_38 φ.v150 (broadcastInDim S4096x4096 ![] bcast_S_S4096x4096),
    TRef.binary φ.v148 φ.v150 φ.v151 Host.shli ]

/-- Operations 193 to 216 of the cipher. -/
def cipher8 (a0 a1 : TRef sig ⟨S_, .i32⟩) (a2 a3 : TRef sig ⟨S4096x4096, .i32⟩) (φ : fn_threefry2x32.Bufs) : Ops F :=
  [ TRef.nullary φ.c_39 (constantI S_ 32 17#32),
    TRef.unary φ.c_39 φ.v152 (broadcastInDim S4096x4096 ![] bcast_S_S4096x4096),
    TRef.binary φ.v148 φ.v152 φ.v153 Host.shrui,
    TRef.binary φ.v151 φ.v153 φ.v154 ori,
    TRef.binary φ.v149 φ.v154 φ.v155 xori,
    TRef.binary φ.v149 φ.v155 φ.v156 addi,
    TRef.nullary φ.c_40 (constantI S_ 32 26#32),
    TRef.unary φ.c_40 φ.v157 (broadcastInDim S4096x4096 ![] bcast_S_S4096x4096),
    TRef.binary φ.v155 φ.v157 φ.v158 Host.shli,
    TRef.nullary φ.c_41 (constantI S_ 32 6#32),
    TRef.unary φ.c_41 φ.v159 (broadcastInDim S4096x4096 ![] bcast_S_S4096x4096),
    TRef.binary φ.v155 φ.v159 φ.v160 Host.shrui,
    TRef.binary φ.v158 φ.v160 φ.v161 ori,
    TRef.binary φ.v156 φ.v161 φ.v162 xori,
    TRef.binary φ.v156 φ.v162 φ.v163 addi,
    TRef.nullary φ.c_42 (constantI S_ 32 6#32),
    TRef.unary φ.c_42 φ.v164 (broadcastInDim S4096x4096 ![] bcast_S_S4096x4096),
    TRef.binary φ.v162 φ.v164 φ.v165 Host.shli,
    TRef.nullary φ.c_43 (constantI S_ 32 26#32),
    TRef.unary φ.c_43 φ.v166 (broadcastInDim S4096x4096 ![] bcast_S_S4096x4096),
    TRef.binary φ.v162 φ.v166 φ.v167 Host.shrui,
    TRef.binary φ.v165 φ.v167 φ.v168 ori,
    TRef.binary φ.v163 φ.v168 φ.v169 xori,
    TRef.unary φ.v1 φ.v170 (broadcastInDim S4096x4096 ![] bcast_S_S4096x4096) ]

/-- Operations 217 to 222 of the cipher. -/
def cipher9 (a0 a1 : TRef sig ⟨S_, .i32⟩) (a2 a3 : TRef sig ⟨S4096x4096, .i32⟩) (φ : fn_threefry2x32.Bufs) : Ops F :=
  [ TRef.binary φ.v163 φ.v170 φ.v171 addi,
    TRef.unary a0 φ.v172 (broadcastInDim S4096x4096 ![] bcast_S_S4096x4096),
    TRef.binary φ.v169 φ.v172 φ.v173 addi,
    TRef.nullary φ.c_44 (constantI S_ 32 5#32),
    TRef.unary φ.c_44 φ.v174 (broadcastInDim S4096x4096 ![] bcast_S_S4096x4096),
    TRef.binary φ.v173 φ.v174 φ.v175 addi ]

/-- The cipher from its last operations back: `cipherFrom k` runs groups `k` to 9. -/
def cipherFrom9 (a0 a1 : TRef sig ⟨S_, .i32⟩) (a2 a3 : TRef sig ⟨S4096x4096, .i32⟩) (φ : fn_threefry2x32.Bufs) : Ops F := cipher9 a0 a1 a2 a3 φ
/-- The cipher from group 8 on. -/
def cipherFrom8 (a0 a1 : TRef sig ⟨S_, .i32⟩) (a2 a3 : TRef sig ⟨S4096x4096, .i32⟩) (φ : fn_threefry2x32.Bufs) : Ops F := cipher8 a0 a1 a2 a3 φ ++ cipherFrom9 a0 a1 a2 a3 φ
/-- The cipher from group 7 on. -/
def cipherFrom7 (a0 a1 : TRef sig ⟨S_, .i32⟩) (a2 a3 : TRef sig ⟨S4096x4096, .i32⟩) (φ : fn_threefry2x32.Bufs) : Ops F := cipher7 a0 a1 a2 a3 φ ++ cipherFrom8 a0 a1 a2 a3 φ
/-- The cipher from group 6 on. -/
def cipherFrom6 (a0 a1 : TRef sig ⟨S_, .i32⟩) (a2 a3 : TRef sig ⟨S4096x4096, .i32⟩) (φ : fn_threefry2x32.Bufs) : Ops F := cipher6 a0 a1 a2 a3 φ ++ cipherFrom7 a0 a1 a2 a3 φ
/-- The cipher from group 5 on. -/
def cipherFrom5 (a0 a1 : TRef sig ⟨S_, .i32⟩) (a2 a3 : TRef sig ⟨S4096x4096, .i32⟩) (φ : fn_threefry2x32.Bufs) : Ops F := cipher5 a0 a1 a2 a3 φ ++ cipherFrom6 a0 a1 a2 a3 φ
/-- The cipher from group 4 on. -/
def cipherFrom4 (a0 a1 : TRef sig ⟨S_, .i32⟩) (a2 a3 : TRef sig ⟨S4096x4096, .i32⟩) (φ : fn_threefry2x32.Bufs) : Ops F := cipher4 a0 a1 a2 a3 φ ++ cipherFrom5 a0 a1 a2 a3 φ
/-- The cipher from group 3 on. -/
def cipherFrom3 (a0 a1 : TRef sig ⟨S_, .i32⟩) (a2 a3 : TRef sig ⟨S4096x4096, .i32⟩) (φ : fn_threefry2x32.Bufs) : Ops F := cipher3 a0 a1 a2 a3 φ ++ cipherFrom4 a0 a1 a2 a3 φ
/-- The cipher from group 2 on. -/
def cipherFrom2 (a0 a1 : TRef sig ⟨S_, .i32⟩) (a2 a3 : TRef sig ⟨S4096x4096, .i32⟩) (φ : fn_threefry2x32.Bufs) : Ops F := cipher2 a0 a1 a2 a3 φ ++ cipherFrom3 a0 a1 a2 a3 φ
/-- The cipher from group 1 on. -/
def cipherFrom1 (a0 a1 : TRef sig ⟨S_, .i32⟩) (a2 a3 : TRef sig ⟨S4096x4096, .i32⟩) (φ : fn_threefry2x32.Bufs) : Ops F := cipher1 a0 a1 a2 a3 φ ++ cipherFrom2 a0 a1 a2 a3 φ
/-- The cipher from group 0 on. -/
def cipherFrom0 (a0 a1 : TRef sig ⟨S_, .i32⟩) (a2 a3 : TRef sig ⟨S4096x4096, .i32⟩) (φ : fn_threefry2x32.Bufs) : Ops F := cipher0 a0 a1 a2 a3 φ ++ cipherFrom1 a0 a1 a2 a3 φ

/-- A uniform draw before the cipher: the key's two words and the 64-bit counter's two words. -/
def drawHead (key : TRef sig ⟨S2, .i32⟩) (lo hi : TRef sig ⟨S_, .f32⟩) (ψ : fn_uniform.Bufs) : Ops F :=
  [ TRef.unary lo ψ.v0 id,
    TRef.unary hi ψ.v1 id,
    TRef.unary ψ.v0 ψ.v2 (broadcastInDim S1x1 ![] bcast_S_S1x1),
    TRef.unary ψ.v1 ψ.v3 (broadcastInDim S1x1 ![] bcast_S_S1x1),
    TRef.unary key ψ.v4 (extractStridedSlice S1 ![0] · slices_S2_S1_0),
    TRef.reshape ψ.v4 ψ.v5 (rfl : (.i32 : EltTy) = .i32) shapeCasts_S1_S_,
    TRef.unary key ψ.v6 (extractStridedSlice S1 ![1] · slices_S2_S1_1),
    TRef.reshape ψ.v6 ψ.v7 (rfl : (.i32 : EltTy) = .i32) shapeCasts_S1_S_,
    TRef.nullary ψ.v8 (iotaInDim S4096x4096 64 0),
    TRef.nullary ψ.v9 (iotaInDim S4096x4096 64 1),
    TRef.nullary ψ.c (constantI S_ 64 4096#64),
    TRef.unary ψ.c ψ.v10 (broadcastInDim S4096x4096 ![] bcast_S_S4096x4096),
    TRef.binary ψ.v10 ψ.v8 ψ.v11 muli,
    TRef.nullary ψ.c_0 (constantI S_ 64 1#64),
    TRef.unary ψ.c_0 ψ.v12 (broadcastInDim S4096x4096 ![] bcast_S_S4096x4096),
    TRef.binary ψ.v12 ψ.v9 ψ.v13 muli,
    TRef.binary ψ.v11 ψ.v13 ψ.v14 addi,
    TRef.nullary ψ.c_1 (constantI S_ 64 32#64),
    TRef.unary ψ.c_1 ψ.v15 (broadcastInDim S4096x4096 ![] bcast_S_S4096x4096),
    TRef.binary ψ.v14 ψ.v15 ψ.v16 Host.shrui,
    TRef.unary ψ.v14 ψ.v17 (trunci 32 · natLt_32_64),
    TRef.unary ψ.v16 ψ.v18 (trunci 32 · natLt_32_64) ]

/-- A uniform draw after the cipher: the bits as a fraction, moved to the interval asked for. -/
def drawTail (ψ : fn_uniform.Bufs) : Ops F :=
  [ TRef.binary ψ.call0.v171 ψ.call0.v175 ψ.v20 xori,
    TRef.nullary ψ.c_2 (constantI S_ 32 9#32),
    TRef.unary ψ.c_2 ψ.v21 (broadcastInDim S4096x4096 ![] bcast_S_S4096x4096),
    TRef.binary ψ.v20 ψ.v21 ψ.v22 Host.shrui,
    TRef.nullary ψ.c_3 (constantI S_ 32 1065353216#32),
    TRef.unary ψ.c_3 ψ.v23 (broadcastInDim S4096x4096 ![] bcast_S_S4096x4096),
    TRef.binary ψ.v22 ψ.v23 ψ.v24 ori,
    TRef.unary ψ.v24 ψ.v25 (bitcastToFloat .f32),
    TRef.nullary ψ.cst (constant S_ .f32 0x3F800000#32),
    TRef.unary ψ.cst ψ.v26 (broadcastInDim S4096x4096 ![] bcast_S_S4096x4096),
    TRef.binary ψ.v25 ψ.v26 ψ.v27 subf,
    TRef.binary ψ.v3 ψ.v2 ψ.v28 subf,
    TRef.unary ψ.v28 ψ.v29 (broadcastInDim S4096x4096 ![0, 1] bcast_S1x1_S4096x4096_0_1),
    TRef.binary ψ.v27 ψ.v29 ψ.v30 mulf,
    TRef.unary ψ.v2 ψ.v31 (broadcastInDim S4096x4096 ![0, 1] bcast_S1x1_S4096x4096_0_1),
    TRef.binary ψ.v30 ψ.v31 ψ.v32 addf,
    TRef.unary ψ.v2 ψ.v33 (broadcastInDim S4096x4096 ![0, 1] bcast_S1x1_S4096x4096_0_1),
    TRef.binary ψ.v33 ψ.v32 ψ.v34 maximumf ]

/-- A uniform draw from the cipher on. -/
def drawFrom (ψ : fn_uniform.Bufs) : Ops F := cipherFrom0 ψ.v5 ψ.v7 ψ.v18 ψ.v17 ψ.call0 ++ drawTail ψ
/-- A whole uniform draw. -/
def draw (key : TRef sig ⟨S2, .i32⟩) (lo hi : TRef sig ⟨S_, .f32⟩) (ψ : fn_uniform.Bufs) : Ops F := drawHead key lo hi ψ ++ drawFrom ψ

/-- What the cipher writes. -/
def cipherWrites (φ : fn_threefry2x32.Bufs) : List (Ref sig .tc) :=
  [φ.v0.ref, φ.c.ref, φ.v1.ref, φ.v2.ref, φ.v3.ref, φ.v4.ref, φ.v5.ref, φ.v6.ref, φ.c_0.ref, φ.v7.ref,
   φ.v8.ref, φ.c_1.ref, φ.v9.ref, φ.v10.ref, φ.v11.ref, φ.v12.ref, φ.v13.ref, φ.c_2.ref, φ.v14.ref,
   φ.v15.ref, φ.c_3.ref, φ.v16.ref, φ.v17.ref, φ.v18.ref, φ.v19.ref, φ.v20.ref, φ.c_4.ref, φ.v21.ref,
   φ.v22.ref, φ.c_5.ref, φ.v23.ref, φ.v24.ref, φ.v25.ref, φ.v26.ref, φ.v27.ref, φ.c_6.ref, φ.v28.ref,
   φ.v29.ref, φ.c_7.ref, φ.v30.ref, φ.v31.ref, φ.v32.ref, φ.v33.ref, φ.v34.ref, φ.v35.ref, φ.v36.ref,
   φ.v37.ref, φ.c_8.ref, φ.v38.ref, φ.v39.ref, φ.v40.ref, φ.c_9.ref, φ.v41.ref, φ.v42.ref, φ.c_10.ref,
   φ.v43.ref, φ.v44.ref, φ.v45.ref, φ.v46.ref, φ.v47.ref, φ.c_11.ref, φ.v48.ref, φ.v49.ref, φ.c_12.ref,
   φ.v50.ref, φ.v51.ref, φ.v52.ref, φ.v53.ref, φ.v54.ref, φ.c_13.ref, φ.v55.ref, φ.v56.ref, φ.c_14.ref,
   φ.v57.ref, φ.v58.ref, φ.v59.ref, φ.v60.ref, φ.v61.ref, φ.c_15.ref, φ.v62.ref, φ.v63.ref, φ.c_16.ref,
   φ.v64.ref, φ.v65.ref, φ.v66.ref, φ.v67.ref, φ.v68.ref, φ.v69.ref, φ.v70.ref, φ.v71.ref, φ.c_17.ref,
   φ.v72.ref, φ.v73.ref, φ.v74.ref, φ.c_18.ref, φ.v75.ref, φ.v76.ref, φ.c_19.ref, φ.v77.ref, φ.v78.ref,
   φ.v79.ref, φ.v80.ref, φ.v81.ref, φ.c_20.ref, φ.v82.ref, φ.v83.ref, φ.c_21.ref, φ.v84.ref, φ.v85.ref,
   φ.v86.ref, φ.v87.ref, φ.v88.ref, φ.c_22.ref, φ.v89.ref, φ.v90.ref, φ.c_23.ref, φ.v91.ref, φ.v92.ref,
   φ.v93.ref, φ.v94.ref, φ.v95.ref, φ.c_24.ref, φ.v96.ref, φ.v97.ref, φ.c_25.ref, φ.v98.ref, φ.v99.ref,
   φ.v100.ref, φ.v101.ref, φ.v102.ref, φ.v103.ref, φ.v104.ref, φ.v105.ref, φ.c_26.ref, φ.v106.ref,
   φ.v107.ref, φ.v108.ref, φ.c_27.ref, φ.v109.ref, φ.v110.ref, φ.c_28.ref, φ.v111.ref, φ.v112.ref,
   φ.v113.ref, φ.v114.ref, φ.v115.ref, φ.c_29.ref, φ.v116.ref, φ.v117.ref, φ.c_30.ref, φ.v118.ref,
   φ.v119.ref, φ.v120.ref, φ.v121.ref, φ.v122.ref, φ.c_31.ref, φ.v123.ref, φ.v124.ref, φ.c_32.ref,
   φ.v125.ref, φ.v126.ref, φ.v127.ref, φ.v128.ref, φ.v129.ref, φ.c_33.ref, φ.v130.ref, φ.v131.ref,
   φ.c_34.ref, φ.v132.ref, φ.v133.ref, φ.v134.ref, φ.v135.ref, φ.v136.ref, φ.v137.ref, φ.v138.ref,
   φ.v139.ref, φ.c_35.ref, φ.v140.ref, φ.v141.ref, φ.v142.ref, φ.c_36.ref, φ.v143.ref, φ.v144.ref,
   φ.c_37.ref, φ.v145.ref, φ.v146.ref, φ.v147.ref, φ.v148.ref, φ.v149.ref, φ.c_38.ref, φ.v150.ref,
   φ.v151.ref, φ.c_39.ref, φ.v152.ref, φ.v153.ref, φ.v154.ref, φ.v155.ref, φ.v156.ref, φ.c_40.ref,
   φ.v157.ref, φ.v158.ref, φ.c_41.ref, φ.v159.ref, φ.v160.ref, φ.v161.ref, φ.v162.ref, φ.v163.ref,
   φ.c_42.ref, φ.v164.ref, φ.v165.ref, φ.c_43.ref, φ.v166.ref, φ.v167.ref, φ.v168.ref, φ.v169.ref,
   φ.v170.ref, φ.v171.ref, φ.v172.ref, φ.v173.ref, φ.c_44.ref, φ.v174.ref, φ.v175.ref]

/-- What a draw writes before the cipher. -/
def headWrites (ψ : fn_uniform.Bufs) : List (Ref sig .tc) :=
  [ψ.v0.ref, ψ.v1.ref, ψ.v2.ref, ψ.v3.ref, ψ.v4.ref, ψ.v5.ref, ψ.v6.ref, ψ.v7.ref, ψ.v8.ref, ψ.v9.ref,
   ψ.c.ref, ψ.v10.ref, ψ.v11.ref, ψ.c_0.ref, ψ.v12.ref, ψ.v13.ref, ψ.v14.ref, ψ.c_1.ref, ψ.v15.ref,
   ψ.v16.ref, ψ.v17.ref, ψ.v18.ref]

/-- What a draw writes after the cipher. -/
def tailWrites (ψ : fn_uniform.Bufs) : List (Ref sig .tc) :=
  [ψ.v20.ref, ψ.c_2.ref, ψ.v21.ref, ψ.v22.ref, ψ.c_3.ref, ψ.v23.ref, ψ.v24.ref, ψ.v25.ref, ψ.cst.ref,
   ψ.v26.ref, ψ.v27.ref, ψ.v28.ref, ψ.v29.ref, ψ.v30.ref, ψ.v31.ref, ψ.v32.ref, ψ.v33.ref, ψ.v34.ref]

/-- A choice whose other branch is one number. -/
def whereElse (p : TRef sig ⟨S4096x4096, .i1⟩) (x : TRef sig ⟨S4096x4096, .f32⟩) (z : TRef sig ⟨S_, .f32⟩) (φ : fn_where.Bufs) : Ops F :=
  [ TRef.unary z φ.v0 id,
    TRef.unary φ.v0 φ.v1 (broadcastInDim S4096x4096 ![] bcast_S_S4096x4096),
    TRef.ternary p x φ.v1 φ.v2 select ]

/-- A choice whose first branch is one number. -/
def whereThen (p : TRef sig ⟨S4096x4096, .i1⟩) (z : TRef sig ⟨S_, .f32⟩) (x : TRef sig ⟨S4096x4096, .f32⟩) (φ : fn_where_0.Bufs) : Ops F :=
  [ TRef.unary z φ.v0 id,
    TRef.unary φ.v0 φ.v1 (broadcastInDim S4096x4096 ![] bcast_S_S4096x4096),
    TRef.ternary p φ.v1 x φ.v2 select ]

/-- The position of each row's largest element. -/
def argmaxRow (x : TRef sig ⟨S4096x4096, .f32⟩) (φ : fn_argmax.Bufs) : Ops F :=
  [ TRef.nullary φ.v0 (iotaInDim S4096x4096 32 1),
    TRef.nullary φ.cst (constant S_ .f32 0xFF800000#32),
    TRef.nullary φ.c (constantI S_ 32 0#32),
    TRef.quaternary x φ.v0 φ.cst φ.c φ.v1_0 (fun x y u v j => (Host.argReduce reducer_argmax_f32_i32 x y u v reducesTo_S4096x4096_S4096_d1 h_S_ j).1),
    TRef.quaternary x φ.v0 φ.cst φ.c φ.v1_1 (fun x y u v j => (Host.argReduce reducer_argmax_f32_i32 x y u v reducesTo_S4096x4096_S4096_d1 h_S_ j).2) ]

/-- One element of each row, at a given position. -/
def takeRow (x : TRef sig ⟨S4096x4096, .f32⟩) (p : TRef sig ⟨S4096x1, .i32⟩) (φ : fn_take_along_axis.Bufs) : Ops F :=
  [ TRef.nullary φ.c (constantI S_ 32 0#32),
    TRef.unary φ.c φ.v0 (broadcastInDim S4096x1 ![] bcast_S_S4096x1),
    TRef.binary p φ.v0 φ.v1 (cmpi .slt),
    TRef.nullary φ.c_0 (constantI S_ 32 4096#32),
    TRef.unary φ.c_0 φ.v2 (broadcastInDim S4096x1 ![] bcast_S_S4096x1),
    TRef.binary p φ.v2 φ.v3 addi,
    TRef.ternary φ.v1 φ.v3 p φ.v4 select,
    TRef.reshape φ.v4 φ.v5 (rfl : (.i32 : EltTy) = .i32) shapeCasts_S4096x1_S4096x1x1,
    TRef.nullary φ.c_1 (constantI S1 32 4095#32),
    TRef.nullary φ.c_2 (constantI S_ 32 0#32),
    TRef.unary φ.c_2 φ.v6 (broadcastInDim S4096x1x1 ![] bcast_S_S4096x1x1),
    TRef.binary φ.v5 φ.v6 φ.v7 (cmpi .sge),
    TRef.unary φ.c_1 φ.v8 (broadcastInDim S1x1x1 ![2] bcast_S1_S1x1x1_2),
    TRef.unary φ.v8 φ.v9 (broadcastInDim S4096x1x1 ![0, 1, 2] bcast_S1x1x1_S4096x1x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4096x1x1_S4096x1_d2 h_S_),
    TRef.binary x φ.v5 φ.v13 (fun x i => Host.gather gather_S4096x4096_S4096x1x1_S4096x1_n_1_0_0_1_2_11 x i),
    TRef.nullary φ.cst (constant S_ .f32 0x7FC00000#32),
    TRef.unary φ.cst φ.v14 (broadcastInDim S4096x1 ![] bcast_S_S4096x1),
    TRef.ternary φ.v12 φ.v13 φ.v14 φ.v15 select ]

/-- The softplus of each element. -/
def softplusOps (x : TRef sig ⟨S4096, .f32⟩) (φ : fn_softplus.Bufs) : Ops F :=
  [ TRef.nullary φ.cst (constant S_ .f32 0x00000000#32),
    TRef.unary φ.cst φ.v0 (broadcastInDim S4096 ![] bcast_S_S4096),
    TRef.binary x φ.v0 φ.v1 maximumf,
    TRef.unary φ.cst φ.v2 (broadcastInDim S4096 ![] bcast_S_S4096),
    TRef.binary x φ.v2 φ.v3 subf,
    TRef.binary φ.v3 φ.v3 φ.v4 (cmpf .une),
    TRef.unary φ.cst φ.v5 (broadcastInDim S4096 ![] bcast_S_S4096),
    TRef.binary x φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- @main's own operations, group 0. -/
def main0 : Ops F :=
  [ unary main_arg1 main_v0 (broadcastInDim S1x4096 ![1] bcast_S4096_S1x4096_1),
    unary main_arg1 main_v1 (broadcastInDim S4096x1 ![0] bcast_S4096_S4096x1_0),
    unary main_v0 main_v2 (broadcastInDim S4096x4096 ![0, 1] bcast_S1x4096_S4096x4096_0_1),
    unary main_v1 main_v3 (broadcastInDim S4096x4096 ![0, 1] bcast_S4096x1_S4096x4096_0_1),
    binary main_v2 main_v3 main_v4 (cmpi .eq),
    nullary main_cst (constant S_ .f32 0xFF800000#32) ]

/-- @main's own operations, group 1. -/
def main1 : Ops F :=
  [ nullary main_cst_0 (constant S_ .f32 0x7F800000#32) ]

/-- @main's own operations, group 2. -/
def main2 : Ops F :=
  [ nullary main_c (constantI S_ 32 123#32),
    nullary main_c_1 (constantI S_ 32 32#32),
    binary main_c main_c_1 main_v7 (Host.shrui),
    unary main_v7 main_v8 (id),
    unary main_v8 main_v9 (broadcastInDim S1 ![] bcast_S_S1),
    nullary main_c_2 (constantI S_ 32 4294967295#32),
    binary main_c main_c_2 main_v10 (andi),
    unary main_v10 main_v11 (id),
    unary main_v11 main_v12 (broadcastInDim S1 ![] bcast_S_S1),
    binary main_v9 main_v12 main_v13 ((fun a b => concatenate S2 0 [⟨S1, a⟩, ⟨S1, b⟩] concatenates_S1_S1_S2_d0)),
    nullary main_cst_3 (constant S_ .f32 0x00000000#32),
    nullary main_cst_4 (constant S_ .f32 0x3F800000#32) ]

/-- @main's own operations, group 3. -/
def main3 : Ops F :=
  [ nullary main_cst_5 (constant S_ .f32 0x3F800000#32),
    unary main_cst_5 main_v15 (broadcastInDim S4096x4096 ![] bcast_S_S4096x4096),
    binary main_v14 main_v15 main_v16 (mulf),
    nullary main_cst_6 (constant S_ .f32 0x00800000#32),
    unary main_cst_6 main_v17 (broadcastInDim S4096x4096 ![] bcast_S_S4096x4096),
    binary main_v16 main_v17 main_v18 (addf),
    nullary main_cst_7 (constant S_ .f32 0x00800000#32),
    unary main_cst_7 main_v19 (broadcastInDim S4096x4096 ![] bcast_S_S4096x4096),
    binary main_v19 main_v18 main_v20 (maximumf),
    unary main_v20 main_v21 (Host.log),
    unary main_v21 main_v22 (Host.negf),
    unary main_v22 main_v23 (Host.log),
    unary main_v23 main_v24 (Host.negf),
    nullary main_cst_8 (constant S_ .f32 0x3F800000#32),
    unary main_cst_8 main_v25 (broadcastInDim S4096x4096 ![] bcast_S_S4096x4096),
    binary main_v5 main_v25 main_v26 (Host.divf),
    binary main_v24 main_v26 main_v27 (addf),
    nullary main_c_9 (constantI S_ 32 456#32),
    nullary main_c_10 (constantI S_ 32 32#32),
    binary main_c_9 main_c_10 main_v28 (Host.shrui),
    unary main_v28 main_v29 (id),
    unary main_v29 main_v30 (broadcastInDim S1 ![] bcast_S_S1),
    nullary main_c_11 (constantI S_ 32 4294967295#32),
    binary main_c_9 main_c_11 main_v31 (andi),
    unary main_v31 main_v32 (id),
    unary main_v32 main_v33 (broadcastInDim S1 ![] bcast_S_S1),
    binary main_v30 main_v33 main_v34 ((fun a b => concatenate S2 0 [⟨S1, a⟩, ⟨S1, b⟩] concatenates_S1_S1_S2_d0)),
    nullary main_cst_12 (constant S_ .f32 0x00000000#32),
    nullary main_cst_13 (constant S_ .f32 0x3F800000#32) ]

/-- @main's own operations, group 4. -/
def main4 : Ops F :=
  [ nullary main_cst_14 (constant S_ .f32 0x3F800000#32),
    unary main_cst_14 main_v36 (broadcastInDim S4096x4096 ![] bcast_S_S4096x4096),
    binary main_v35 main_v36 main_v37 (mulf),
    nullary main_cst_15 (constant S_ .f32 0x00800000#32),
    unary main_cst_15 main_v38 (broadcastInDim S4096x4096 ![] bcast_S_S4096x4096),
    binary main_v37 main_v38 main_v39 (addf),
    nullary main_cst_16 (constant S_ .f32 0x00800000#32),
    unary main_cst_16 main_v40 (broadcastInDim S4096x4096 ![] bcast_S_S4096x4096),
    binary main_v40 main_v39 main_v41 (maximumf),
    unary main_v41 main_v42 (Host.log),
    unary main_v42 main_v43 (Host.negf),
    unary main_v43 main_v44 (Host.log),
    unary main_v44 main_v45 (Host.negf),
    nullary main_cst_17 (constant S_ .f32 0x3F800000#32),
    unary main_cst_17 main_v46 (broadcastInDim S4096x4096 ![] bcast_S_S4096x4096),
    binary main_v6 main_v46 main_v47 (Host.divf),
    unary main_v47 main_v48 (Host.negf),
    binary main_v45 main_v48 main_v49 (addf) ]

/-- @main's own operations, group 5. -/
def main5 : Ops F :=
  [ unary main_v50 main_v52 (broadcastInDim S4096x1 ![0] bcast_S4096_S4096x1_0) ]

/-- @main's own operations, group 6. -/
def main6 : Ops F :=
  [ reshape main_v53 main_v54 (rfl : (.f32 : EltTy) = .f32) shapeCasts_S4096x1_S4096,
    unary main_v51 main_v55 (broadcastInDim S4096x1 ![0] bcast_S4096_S4096x1_0) ]

/-- @main's own operations, group 7. -/
def main7 : Ops F :=
  [ reshape main_v56 main_v57 (rfl : (.f32 : EltTy) = .f32) shapeCasts_S4096x1_S4096,
    binary main_v54 main_v57 main_v58 (subf) ]

/-- @main from piece 16 on. -/
def from16 : Ops F := softplusOps (.of main_v58) main_call8
/-- @main from piece 15 on. -/
def from15 : Ops F := main7 ++ from16
/-- @main from piece 14 on. -/
def from14 : Ops F := takeRow (.of main_arg0) (.of main_v55) main_call7 ++ from15
/-- @main from piece 13 on. -/
def from13 : Ops F := main6 ++ from14
/-- @main from piece 12 on. -/
def from12 : Ops F := takeRow (.of main_arg0) (.of main_v52) main_call6 ++ from13
/-- @main from piece 11 on. -/
def from11 : Ops F := main5 ++ from12
/-- @main from piece 10 on. -/
def from10 : Ops F := argmaxRow (.of main_v49) main_call5 ++ from11
/-- @main from piece 9 on. -/
def from9 : Ops F := argmaxRow (.of main_v27) main_call4 ++ from10
/-- @main from piece 8 on. -/
def from8 : Ops F := main4 ++ from9
/-- @main from piece 7 on. -/
def from7 : Ops F := draw (.of main_v34) (.of main_cst_12) (.of main_cst_13) main_call3 ++ from8
/-- @main from piece 6 on. -/
def from6 : Ops F := main3 ++ from7
/-- @main from piece 5 on. -/
def from5 : Ops F := draw (.of main_v13) (.of main_cst_3) (.of main_cst_4) main_call2 ++ from6
/-- @main from piece 4 on. -/
def from4 : Ops F := main2 ++ from5
/-- @main from piece 3 on. -/
def from3 : Ops F := whereThen (.of main_v4) (.of main_cst_0) (.of main_arg0) main_call1 ++ from4
/-- @main from piece 2 on. -/
def from2 : Ops F := main1 ++ from3
/-- @main from piece 1 on. -/
def from1 : Ops F := whereElse (.of main_v4) (.of main_arg0) (.of main_cst) main_call0 ++ from2
/-- @main from piece 0 on. -/
def from0 : Ops F := main0 ++ from1

/-- The cipher's body is its list. -/
theorem cipher_eq (a0 a1 : TRef sig ⟨S_, .i32⟩) (a2 a3 : TRef sig ⟨S4096x4096, .i32⟩) (φ : fn_threefry2x32.Bufs) :
    fn_threefry2x32.body (F := F) a0 a1 a2 a3 φ = seq (cipherFrom0 a0 a1 a2 a3 φ) := rfl

/-- A draw's body is its list. -/
theorem draw_eq (key : TRef sig ⟨S2, .i32⟩) (lo hi : TRef sig ⟨S_, .f32⟩) (ψ : fn_uniform.Bufs) :
    fn_uniform.body (F := F) key lo hi ψ = seq (draw key lo hi ψ) := rfl

set_option maxRecDepth 16384 in
set_option maxHeartbeats 4000000 in
/-- @main is its list. -/
theorem main_eq (c : Dev nD) : main (F := F) c = seq from0 := rfl

end Cert.Proof.Ref

end
-- ==== Proof.Spec.lean ====
module

public import proofs.«01_k».proof.Defs
public import proofs.«01_k».proof.Proof.Gen.ReferenceIdeal
public import proofs.«01_k».proof.Proof.Gen.Pre_ties_agree

@[expose] public section

noncomputable section

/-! The reference as a function of its two arrays, in the pieces the precondition shares with it: the class mask, the
    two masked distance arrays, the two score arrays, the position of each row's largest score, the distance there,
    and the softplus of the difference. -/

namespace Cert.Proof.Spec

open Cert.ReferenceIdeal Cert.ReferenceIdeal.Gen Idealize.ShloMosaic Idealize.SL.Sem

variable {F : FTy → Type} [FloatOps F]

/-- Entry `(i, j)`: whether rows `i` and `j` carry one class. -/
def same (pids : IVec S4096 32) : IVec S4096x4096 1 :=
  cmpi .eq
    (broadcastInDim S4096x4096 ![0, 1] bcast_S1x4096_S4096x4096_0_1 (broadcastInDim S1x4096 ![1] bcast_S4096_S1x4096_1 pids))
    (broadcastInDim S4096x4096 ![0, 1] bcast_S4096x1_S4096x4096_0_1 (broadcastInDim S4096x1 ![0] bcast_S4096_S4096x1_0 pids))

/-- One number in every place of a square array. -/
def fill (b : BitVec 32) : FVec F S4096x4096 .f32 := broadcastInDim S4096x4096 ![] bcast_S_S4096x4096 (constant S_ .f32 b)

/-- The distances to the rows of the same class, minus infinity elsewhere. -/
def distPos (dist : FVec F S4096x4096 .f32) (pids : IVec S4096 32) : FVec F S4096x4096 .f32 :=
  select (same pids) dist (fill 0xFF800000#32)

/-- The distances to the rows of other classes, plus infinity elsewhere. -/
def distNeg (dist : FVec F S4096x4096 .f32) (pids : IVec S4096 32) : FVec F S4096x4096 .f32 :=
  select (same pids) (fill 0x7F800000#32) dist

/-- The two words of a generator key made of the seed `s`. -/
def keyOf (s : BitVec 32) : IVec S2 32 :=
  (fun a b => concatenate S2 0 [⟨S1, a⟩, ⟨S1, b⟩] concatenates_S1_S1_S2_d0)
    (broadcastInDim S1 ![] bcast_S_S1 (id (Host.shrui (constantI S_ 32 s) (constantI S_ 32 32#32))))
    (broadcastInDim S1 ![] bcast_S_S1 (id (andi (constantI S_ 32 s) (constantI S_ 32 4294967295#32))))

/-- The uniform draws of seed `s`. -/
def uniform (s : BitVec 32) : FVec F S4096x4096 .f32 :=
  Cert.Pre_ties_agree.fn_uniform (F := F) (keyOf s) (constant S_ .f32 0x00000000#32) (constant S_ .f32 0x3F800000#32)

/-- Gumbel noise from uniform draws. -/
def gumbel (u : FVec F S4096x4096 .f32) : FVec F S4096x4096 .f32 :=
  Host.negf (Host.log (Host.negf (Host.log
    (maximumf (fill 0x00800000#32) (addf (mulf u (fill 0x3F800000#32)) (fill 0x00800000#32))))))

/-- A positive's score from its masked distance and its draw. -/
def scorePos (d u : FVec F S4096x4096 .f32) : FVec F S4096x4096 .f32 := addf (gumbel u) (Host.divf d (fill 0x3F800000#32))

/-- A negative's score from its masked distance and its draw. -/
def scoreNeg (d u : FVec F S4096x4096 .f32) : FVec F S4096x4096 .f32 :=
  addf (gumbel u) (Host.negf (Host.divf d (fill 0x3F800000#32)))

/-- The position of each row's largest element. -/
def argmax (x : FVec F S4096x4096 .f32) : IVec S4096 32 := fun j =>
  (Host.argReduce reducer_argmax_f32_i32 x (iotaInDim S4096x4096 32 1) (constant S_ .f32 0xFF800000#32) (constantI S_ 32 0#32)
    reducesTo_S4096x4096_S4096_d1 h_S_ j).2

/-- A position as the gather takes it: counted from the row's end if negative. -/
def place (p : IVec S4096x1 32) : IVec S4096x1x1 32 :=
  shapeCast S4096x1x1 (select (cmpi .slt p (broadcastInDim S4096x1 ![] bcast_S_S4096x1 (constantI S_ 32 0#32)))
    (addi p (broadcastInDim S4096x1 ![] bcast_S_S4096x1 (constantI S_ 32 4096#32))) p) shapeCasts_S4096x1_S4096x1x1

/-- Whether a position lies in the row. -/
def inRow (q : IVec S4096x1x1 32) : IVec S4096x1 1 :=
  (fun x v => Host.reduce IntOp.andi x v reducesTo_S4096x1x1_S4096x1_d2 h_S_)
    (andi (cmpi .sge q (broadcastInDim S4096x1x1 ![] bcast_S_S4096x1x1 (constantI S_ 32 0#32)))
      (cmpi .sle q (broadcastInDim S4096x1x1 ![0, 1, 2] bcast_S1x1x1_S4096x1x1_0_1_2
        (broadcastInDim S1x1x1 ![2] bcast_S1_S1x1x1_2 (constantI S1 32 4095#32)))))
    (constantI S_ 1 1#1)

/-- The element of each row at a position. -/
def take (x : FVec F S4096x4096 .f32) (p : IVec S4096x1 32) : FVec F S4096x1 .f32 :=
  select (inRow (place p)) (Host.gather gather_S4096x4096_S4096x1x1_S4096x1_n_1_0_0_1_2_11 x (place p))
    (broadcastInDim S4096x1 ![] bcast_S_S4096x1 (constant S_ .f32 0x7FC00000#32))

/-- Zero for each row. -/
def zeros : FVec F S4096 .f32 := broadcastInDim S4096 ![] bcast_S_S4096 (constant S_ .f32 0x00000000#32)

/-- The softplus of each element. -/
def softplus (x : FVec F S4096 .f32) : FVec F S4096 .f32 :=
  select (cmpf .une (subf x zeros) (subf x zeros)) (addf x zeros)
    (addf (maximumf x zeros) (Host.log1p (Host.exp (Host.negf (Host.absf (subf x zeros))))))

/-- The element of each row of `x` where that row of `s` is largest. -/
def pick (x s : FVec F S4096x4096 .f32) : FVec F S4096 .f32 :=
  shapeCast S4096 (take x (broadcastInDim S4096x1 ![0] bcast_S4096_S4096x1_0 (argmax s))) shapeCasts_S4096x1_S4096

/-- The loss from the distances and the two score arrays. -/
def loss (dist sp sn : FVec F S4096x4096 .f32) : FVec F S4096 .f32 := softplus (subf (pick dist sp) (pick dist sn))

/-- The reference's result. -/
def out (dist : FVec F S4096x4096 .f32) (pids : IVec S4096 32) : FVec F S4096 .f32 :=
  loss dist (scorePos (distPos dist pids) (uniform 123#32)) (scoreNeg (distNeg dist pids) (uniform 456#32))

end Cert.Proof.Spec

end
-- ==== Proof.RefCipher.lean ====
module

public import proofs.«01_k».proof.Proof.RefOps
public import proofs.«01_k».proof.Proof.Spec
public import Idealize.ShloMosaic.Lib.Pipeline.Frame

@[expose] public section

noncomputable section

/-! What the reference's lists of operations leave in the buffers that matter, read from the last piece back: each
    theorem runs one piece and hands its results to the theorem after it. The random draws are the functions the
    precondition names. -/

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- What a device's buffers hold at a typed reference. -/
abbrev val {T : BufTy} (V : Valuation τ sig (Elt F)) (t : TRef sig T) : T.Contents (Elt F) := t.ofBuf (V (Proc.devRef .tc t.ref))

set_option maxRecDepth 16384 in
set_option maxHeartbeats 4000000 in
/-- The cipher's two words from group 9 on. -/
theorem cipher9_val (ψ : fn_uniform.Bufs) (hψ : ψ = main_call2 ∨ ψ = main_call3) (V : Valuation τ sig (Elt F)) :
    (val (after (cipherFrom9 ψ.v5 ψ.v7 ψ.v18 ψ.v17 ψ.call0) V) ψ.call0.v171, val (after (cipherFrom9 ψ.v5 ψ.v7 ψ.v18 ψ.v17 ψ.call0) V) ψ.call0.v175)
      = Cert.Pre_ties_agree.fn_threefry2x32_part9 (F := F) (val V ψ.v5) (val V ψ.call0.v163) (val V ψ.call0.v169) (val V ψ.call0.v170) := by
  rcases hψ with rfl | rfl
  all_goals
    refine Prod.ext ?_ ?_
    all_goals
      simp only [cipherFrom9, cipher9, val, TRef.ofBuf, TRef.toBuf, TRef.nullary, TRef.unary, TRef.binary, cast_eq]
      after_results_simp
      rfl

set_option maxRecDepth 16384 in
set_option maxHeartbeats 4000000 in
/-- The cipher's two words from group 8 on. -/
theorem cipher8_val (ψ : fn_uniform.Bufs) (hψ : ψ = main_call2 ∨ ψ = main_call3) (V : Valuation τ sig (Elt F)) :
    (val (after (cipherFrom8 ψ.v5 ψ.v7 ψ.v18 ψ.v17 ψ.call0) V) ψ.call0.v171, val (after (cipherFrom8 ψ.v5 ψ.v7 ψ.v18 ψ.v17 ψ.call0) V) ψ.call0.v175)
      = Cert.Pre_ties_agree.fn_threefry2x32_part8 (F := F) (val V ψ.v5) (val V ψ.call0.v1) (val V ψ.call0.v148) (val V ψ.call0.v149) (val V ψ.call0.v151) := by
  rw [cipherFrom8, after_append, cipher9_val ψ hψ]
  rcases hψ with rfl | rfl
  all_goals
    simp only [cipher8, val, TRef.ofBuf, TRef.toBuf, TRef.nullary, TRef.unary, TRef.binary, cast_eq]
    after_results_simp
    rfl

set_option maxRecDepth 16384 in
set_option maxHeartbeats 4000000 in
/-- The cipher's two words from group 7 on. -/
theorem cipher7_val (ψ : fn_uniform.Bufs) (hψ : ψ = main_call2 ∨ ψ = main_call3) (V : Valuation τ sig (Elt F)) :
    (val (after (cipherFrom7 ψ.v5 ψ.v7 ψ.v18 ψ.v17 ψ.call0) V) ψ.call0.v171, val (after (cipherFrom7 ψ.v5 ψ.v7 ψ.v18 ψ.v17 ψ.call0) V) ψ.call0.v175)
      = Cert.Pre_ties_agree.fn_threefry2x32_part7 (F := F) (val V ψ.v5) (val V ψ.v7) (val V ψ.call0.v1) (val V ψ.call0.v128) (val V ψ.call0.v129) (val V ψ.call0.v131) (val V ψ.call0.c_34) := by
  rw [cipherFrom7, after_append, cipher8_val ψ hψ]
  rcases hψ with rfl | rfl
  all_goals
    simp only [cipher7, val, TRef.ofBuf, TRef.toBuf, TRef.nullary, TRef.unary, TRef.binary, cast_eq]
    after_results_simp
    rfl

set_option maxRecDepth 16384 in
set_option maxHeartbeats 4000000 in
/-- The cipher's two words from group 6 on. -/
theorem cipher6_val (ψ : fn_uniform.Bufs) (hψ : ψ = main_call2 ∨ ψ = main_call3) (V : Valuation τ sig (Elt F)) :
    (val (after (cipherFrom6 ψ.v5 ψ.v7 ψ.v18 ψ.v17 ψ.call0) V) ψ.call0.v171, val (after (cipherFrom6 ψ.v5 ψ.v7 ψ.v18 ψ.v17 ψ.call0) V) ψ.call0.v175)
      = Cert.Pre_ties_agree.fn_threefry2x32_part6 (F := F) (val V ψ.v5) (val V ψ.v7) (val V ψ.call0.v1) (val V ψ.call0.v108) (val V ψ.call0.v113) := by
  rw [cipherFrom6, after_append, cipher7_val ψ hψ]
  rcases hψ with rfl | rfl
  all_goals
    simp only [cipher6, val, TRef.ofBuf, TRef.toBuf, TRef.nullary, TRef.unary, TRef.binary, cast_eq]
    after_results_simp
    rfl

set_option maxRecDepth 16384 in
set_option maxHeartbeats 4000000 in
/-- The cipher's two words from group 5 on. -/
theorem cipher5_val (ψ : fn_uniform.Bufs) (hψ : ψ = main_call2 ∨ ψ = main_call3) (V : Valuation τ sig (Elt F)) :
    (val (after (cipherFrom5 ψ.v5 ψ.v7 ψ.v18 ψ.v17 ψ.call0) V) ψ.call0.v171, val (after (cipherFrom5 ψ.v5 ψ.v7 ψ.v18 ψ.v17 ψ.call0) V) ψ.call0.v175)
      = Cert.Pre_ties_agree.fn_threefry2x32_part5 (F := F) (val V ψ.v5) (val V ψ.v7) (val V ψ.call0.v1) (val V ψ.call0.v88) (val V ψ.call0.v94) := by
  rw [cipherFrom5, after_append, cipher6_val ψ hψ]
  rcases hψ with rfl | rfl
  all_goals
    simp only [cipher5, val, TRef.ofBuf, TRef.toBuf, TRef.nullary, TRef.unary, TRef.binary, cast_eq]
    after_results_simp
    rfl

set_option maxRecDepth 16384 in
set_option maxHeartbeats 4000000 in
/-- The cipher's two words from group 4 on. -/
theorem cipher4_val (ψ : fn_uniform.Bufs) (hψ : ψ = main_call2 ∨ ψ = main_call3) (V : Valuation τ sig (Elt F)) :
    (val (after (cipherFrom4 ψ.v5 ψ.v7 ψ.v18 ψ.v17 ψ.call0) V) ψ.call0.v171, val (after (cipherFrom4 ψ.v5 ψ.v7 ψ.v18 ψ.v17 ψ.call0) V) ψ.call0.v175)
      = Cert.Pre_ties_agree.fn_threefry2x32_part4 (F := F) (val V ψ.v5) (val V ψ.v7) (val V ψ.call0.v1) (val V ψ.call0.v73) (val V ψ.call0.v74) (val V ψ.call0.v75) := by
  rw [cipherFrom4, after_append, cipher5_val ψ hψ]
  rcases hψ with rfl | rfl
  all_goals
    simp only [cipher4, val, TRef.ofBuf, TRef.toBuf, TRef.nullary, TRef.unary, TRef.binary, cast_eq]
    after_results_simp
    rfl

set_option maxRecDepth 16384 in
set_option maxHeartbeats 4000000 in
/-- The cipher's two words from group 3 on. -/
theorem cipher3_val (ψ : fn_uniform.Bufs) (hψ : ψ = main_call2 ∨ ψ = main_call3) (V : Valuation τ sig (Elt F)) :
    (val (after (cipherFrom3 ψ.v5 ψ.v7 ψ.v18 ψ.v17 ψ.call0) V) ψ.call0.v171, val (after (cipherFrom3 ψ.v5 ψ.v7 ψ.v18 ψ.v17 ψ.call0) V) ψ.call0.v175)
      = Cert.Pre_ties_agree.fn_threefry2x32_part3 (F := F) (val V ψ.v5) (val V ψ.v7) (val V ψ.call0.v1) (val V ψ.call0.v53) (val V ψ.call0.v54) (val V ψ.call0.v56) := by
  rw [cipherFrom3, after_append, cipher4_val ψ hψ]
  rcases hψ with rfl | rfl
  all_goals
    simp only [cipher3, val, TRef.ofBuf, TRef.toBuf, TRef.nullary, TRef.unary, TRef.binary, cast_eq]
    after_results_simp
    rfl

set_option maxRecDepth 16384 in
set_option maxHeartbeats 4000000 in
/-- The cipher's two words from group 2 on. -/
theorem cipher2_val (ψ : fn_uniform.Bufs) (hψ : ψ = main_call2 ∨ ψ = main_call3) (V : Valuation τ sig (Elt F)) :
    (val (after (cipherFrom2 ψ.v5 ψ.v7 ψ.v18 ψ.v17 ψ.call0) V) ψ.call0.v171, val (after (cipherFrom2 ψ.v5 ψ.v7 ψ.v18 ψ.v17 ψ.call0) V) ψ.call0.v175)
      = Cert.Pre_ties_agree.fn_threefry2x32_part2 (F := F) (val V ψ.v5) (val V ψ.v7) (val V ψ.call0.v1) (val V ψ.call0.v35) (val V ψ.call0.v37) (val V ψ.call0.c_8) := by
  rw [cipherFrom2, after_append, cipher3_val ψ hψ]
  rcases hψ with rfl | rfl
  all_goals
    simp only [cipher2, val, TRef.ofBuf, TRef.toBuf, TRef.nullary, TRef.unary, TRef.binary, cast_eq]
    after_results_simp
    rfl

set_option maxRecDepth 16384 in
set_option maxHeartbeats 4000000 in
/-- The cipher's two words from group 1 on. -/
theorem cipher1_val (ψ : fn_uniform.Bufs) (hψ : ψ = main_call2 ∨ ψ = main_call3) (V : Valuation τ sig (Elt F)) :
    (val (after (cipherFrom1 ψ.v5 ψ.v7 ψ.v18 ψ.v17 ψ.call0) V) ψ.call0.v171, val (after (cipherFrom1 ψ.v5 ψ.v7 ψ.v18 ψ.v17 ψ.call0) V) ψ.call0.v175)
      = Cert.Pre_ties_agree.fn_threefry2x32_part1 (F := F) (val V ψ.v5) (val V ψ.v7) (val V ψ.call0.v1) (val V ψ.call0.v13) (val V ψ.call0.v18) := by
  rw [cipherFrom1, after_append, cipher2_val ψ hψ]
  rcases hψ with rfl | rfl
  all_goals
    simp only [cipher1, val, TRef.ofBuf, TRef.toBuf, TRef.nullary, TRef.unary, TRef.binary, cast_eq]
    after_results_simp
    rfl

set_option maxRecDepth 16384 in
set_option maxHeartbeats 4000000 in
/-- The cipher's two words from group 0 on. -/
theorem cipher0_val (ψ : fn_uniform.Bufs) (hψ : ψ = main_call2 ∨ ψ = main_call3) (V : Valuation τ sig (Elt F)) :
    (val (after (cipherFrom0 ψ.v5 ψ.v7 ψ.v18 ψ.v17 ψ.call0) V) ψ.call0.v171, val (after (cipherFrom0 ψ.v5 ψ.v7 ψ.v18 ψ.v17 ψ.call0) V) ψ.call0.v175)
      = Cert.Pre_ties_agree.fn_threefry2x32 (F := F) (val V ψ.v5) (val V ψ.v7) (val V ψ.v18) (val V ψ.v17) := by
  rw [cipherFrom0, after_append, cipher1_val ψ hψ]
  rcases hψ with rfl | rfl
  all_goals
    simp only [cipher0, val, TRef.ofBuf, TRef.toBuf, TRef.nullary, TRef.unary, TRef.binary, cast_eq]
    after_results_simp
    rfl

end Cert.Proof.Ref

end
-- ==== Proof.RefRun.lean ====
module

public import proofs.«01_k».proof.Proof.RefCipher

@[expose] public section

noncomputable section

/-! The reference's run: its result buffer ends at `Spec.out` of its arguments, which end unchanged. -/

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- A buffer the cipher does not write keeps its contents. -/
theorem cipher_keep (a0 a1 : TRef sig ⟨S_, .i32⟩) (a2 a3 : TRef sig ⟨S4096x4096, .i32⟩) (φ : fn_threefry2x32.Bufs)
    (V : Valuation τ sig (Elt F)) (r : Ref sig .tc) (hr : r ∉ cipherWrites φ) :
    after (cipherFrom0 a0 a1 a2 a3 φ) V (Proc.devRef .tc r) = V (Proc.devRef .tc r) :=
  after_of_writes_sub _ V (forall_writes_sub_of_map (W := cipherWrites φ) rfl) hr

/-- A buffer a draw does not write keeps its contents. -/
theorem draw_keep (key : TRef sig ⟨S2, .i32⟩) (lo hi : TRef sig ⟨S_, .f32⟩) (ψ : fn_uniform.Bufs)
    (V : Valuation τ sig (Elt F)) (r : Ref sig .tc) (hh : r ∉ headWrites ψ) (hc : r ∉ cipherWrites ψ.call0) (ht : r ∉ tailWrites ψ) :
    after (draw key lo hi ψ) V (Proc.devRef .tc r) = V (Proc.devRef .tc r) := by
  rw [draw, drawFrom, after_append, after_append,
    after_of_writes_sub (drawTail ψ) _ (forall_writes_sub_of_map (W := tailWrites ψ) rfl) ht, cipher_keep _ _ _ _ _ _ _ hc,
    after_of_writes_sub (drawHead key lo hi ψ) _ (forall_writes_sub_of_map (W := headWrites ψ) rfl) hh]

set_option maxRecDepth 16384 in
set_option maxHeartbeats 4000000 in
/-- What a draw computes from the cipher's two words. -/
theorem drawTail_val (ψ : fn_uniform.Bufs) (hψ : ψ = main_call2 ∨ ψ = main_call3) (V : Valuation τ sig (Elt F)) :
    val (after (drawTail ψ) V) ψ.v34 = Cert.Pre_ties_agree.fn_uniform_part1 (F := F) (val V ψ.v2) (val V ψ.v3)
      (val V ψ.call0.v171) (val V ψ.call0.v175) := by
  rcases hψ with rfl | rfl
  all_goals
    simp only [drawTail, val, TRef.ofBuf, TRef.toBuf, TRef.nullary, TRef.unary, TRef.binary, cast_eq]
    after_results_simp
    rfl

set_option maxRecDepth 16384 in
/-- What a draw computes from the cipher on. -/
theorem drawFrom_val (ψ : fn_uniform.Bufs) (hψ : ψ = main_call2 ∨ ψ = main_call3) (V : Valuation τ sig (Elt F)) :
    val (after (drawFrom ψ) V) ψ.v34 = Cert.Pre_ties_agree.fn_uniform_part1 (F := F) (val V ψ.v2) (val V ψ.v3)
      (Cert.Pre_ties_agree.fn_threefry2x32 (F := F) (val V ψ.v5) (val V ψ.v7) (val V ψ.v18) (val V ψ.v17)).1
      (Cert.Pre_ties_agree.fn_threefry2x32 (F := F) (val V ψ.v5) (val V ψ.v7) (val V ψ.v18) (val V ψ.v17)).2 := by
  rw [drawFrom, after_append, drawTail_val ψ hψ, ← cipher0_val ψ hψ V]
  have h2 : ψ.v2.ref ∉ cipherWrites ψ.call0 ∧ ψ.v3.ref ∉ cipherWrites ψ.call0 := by
    rcases hψ with rfl | rfl <;> decide
  simp only [val, cipher_keep _ _ _ _ _ _ _ h2.1, cipher_keep _ _ _ _ _ _ _ h2.2]

set_option maxRecDepth 16384 in
set_option maxHeartbeats 4000000 in
/-- The first draw. -/
theorem draw2_val (V : Valuation τ sig (Elt F)) :
    after (draw (.of main_v13) (.of main_cst_3) (.of main_cst_4) main_call2) V (Proc.devRef .tc main_v14)
      = Cert.Pre_ties_agree.fn_uniform (F := F) (V (Proc.devRef .tc main_v13)) (V (Proc.devRef .tc main_cst_3)) (V (Proc.devRef .tc main_cst_4)) := by
  rw [draw, after_append]
  refine (drawFrom_val (F := F) main_call2 (Or.inl rfl) _).trans ?_
  simp only [drawHead, val, TRef.ofBuf, TRef.toBuf, TRef.nullary, TRef.unary, TRef.binary, TRef.reshape, cast_eq]
  after_results_simp
  rfl

set_option maxRecDepth 16384 in
set_option maxHeartbeats 4000000 in
/-- The second draw. -/
theorem draw3_val (V : Valuation τ sig (Elt F)) :
    after (draw (.of main_v34) (.of main_cst_12) (.of main_cst_13) main_call3) V (Proc.devRef .tc main_v35)
      = Cert.Pre_ties_agree.fn_uniform (F := F) (V (Proc.devRef .tc main_v34)) (V (Proc.devRef .tc main_cst_12)) (V (Proc.devRef .tc main_cst_13)) := by
  rw [draw, after_append]
  refine (drawFrom_val (F := F) main_call3 (Or.inr rfl) _).trans ?_
  simp only [drawHead, val, TRef.ofBuf, TRef.toBuf, TRef.nullary, TRef.unary, TRef.binary, TRef.reshape, cast_eq]
  after_results_simp
  rfl

set_option maxRecDepth 16384 in
set_option maxHeartbeats 4000000 in
/-- The result from piece 16 on. -/
theorem from16_val (V : Valuation τ sig (Elt F)) :
    after from16 V (Proc.devRef .tc main_v59)
      = Spec.softplus (V (Proc.devRef .tc main_v58)) := by
  rw [from16]
  simp only [softplusOps, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 15 on. -/
theorem from15_val (V : Valuation τ sig (Elt F)) :
    after from15 V (Proc.devRef .tc main_v59)
      = Spec.softplus (subf (V (Proc.devRef .tc main_v54)) (shapeCast S4096 (V (Proc.devRef .tc main_v56)) shapeCasts_S4096x1_S4096)) := by
  rw [from15, after_append, from16_val]
  simp only [main7, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 14 on. -/
theorem from14_val (V : Valuation τ sig (Elt F)) :
    after from14 V (Proc.devRef .tc main_v59)
      = Spec.softplus (subf (V (Proc.devRef .tc main_v54)) (shapeCast S4096 (Spec.take (V (Proc.devRef .tc main_arg0)) (V (Proc.devRef .tc main_v55))) shapeCasts_S4096x1_S4096)) := by
  rw [from14, after_append, from15_val]
  simp only [takeRow, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 13 on. -/
theorem from13_val (V : Valuation τ sig (Elt F)) :
    after from13 V (Proc.devRef .tc main_v59)
      = Spec.softplus (subf (shapeCast S4096 (V (Proc.devRef .tc main_v53)) shapeCasts_S4096x1_S4096) (shapeCast S4096 (Spec.take (V (Proc.devRef .tc main_arg0)) (broadcastInDim S4096x1 ![0] bcast_S4096_S4096x1_0 (V (Proc.devRef .tc main_v51)))) shapeCasts_S4096x1_S4096)) := by
  rw [from13, after_append, from14_val]
  simp only [main6, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 12 on. -/
theorem from12_val (V : Valuation τ sig (Elt F)) :
    after from12 V (Proc.devRef .tc main_v59)
      = Spec.softplus (subf (shapeCast S4096 (Spec.take (V (Proc.devRef .tc main_arg0)) (V (Proc.devRef .tc main_v52))) shapeCasts_S4096x1_S4096) (shapeCast S4096 (Spec.take (V (Proc.devRef .tc main_arg0)) (broadcastInDim S4096x1 ![0] bcast_S4096_S4096x1_0 (V (Proc.devRef .tc main_v51)))) shapeCasts_S4096x1_S4096)) := by
  rw [from12, after_append, from13_val]
  simp only [takeRow, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 11 on. -/
theorem from11_val (V : Valuation τ sig (Elt F)) :
    after from11 V (Proc.devRef .tc main_v59)
      = Spec.softplus (subf (shapeCast S4096 (Spec.take (V (Proc.devRef .tc main_arg0)) (broadcastInDim S4096x1 ![0] bcast_S4096_S4096x1_0 (V (Proc.devRef .tc main_v50)))) shapeCasts_S4096x1_S4096) (shapeCast S4096 (Spec.take (V (Proc.devRef .tc main_arg0)) (broadcastInDim S4096x1 ![0] bcast_S4096_S4096x1_0 (V (Proc.devRef .tc main_v51)))) shapeCasts_S4096x1_S4096)) := by
  rw [from11, after_append, from12_val]
  simp only [main5, TRef.ofBuf, TRef.toBuf, TRef.nullary, TRef.unary, TRef.binary, TRef.ternary, TRef.quaternary, TRef.reshape, cast_eq]
  after_results_simp

set_option maxRecDepth 16384 in
set_option maxHeartbeats 4000000 in
/-- The result from piece 10 on. -/
theorem from10_val (V : Valuation τ sig (Elt F)) :
    after from10 V (Proc.devRef .tc main_v59)
      = Spec.softplus (subf (shapeCast S4096 (Spec.take (V (Proc.devRef .tc main_arg0)) (broadcastInDim S4096x1 ![0] bcast_S4096_S4096x1_0 (V (Proc.devRef .tc main_v50)))) shapeCasts_S4096x1_S4096) (Spec.pick (V (Proc.devRef .tc main_arg0)) (V (Proc.devRef .tc main_v49)))) := by
  rw [from10, after_append, from11_val]
  simp only [argmaxRow, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 9 on. -/
theorem from9_val (V : Valuation τ sig (Elt F)) :
    after from9 V (Proc.devRef .tc main_v59)
      = Spec.loss (V (Proc.devRef .tc main_arg0)) (V (Proc.devRef .tc main_v27)) (V (Proc.devRef .tc main_v49)) := by
  rw [from9, after_append, from10_val]
  simp only [argmaxRow, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 8 on. -/
theorem from8_val (V : Valuation τ sig (Elt F)) :
    after from8 V (Proc.devRef .tc main_v59)
      = Spec.loss (V (Proc.devRef .tc main_arg0)) (V (Proc.devRef .tc main_v27)) (Spec.scoreNeg (V (Proc.devRef .tc main_v6)) (V (Proc.devRef .tc main_v35))) := by
  rw [from8, after_append, from9_val]
  simp only [main4, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 7 on. -/
theorem from7_val (V : Valuation τ sig (Elt F)) :
    after from7 V (Proc.devRef .tc main_v59)
      = Spec.loss (V (Proc.devRef .tc main_arg0)) (V (Proc.devRef .tc main_v27)) (Spec.scoreNeg (V (Proc.devRef .tc main_v6)) (Cert.Pre_ties_agree.fn_uniform (F := F) (V (Proc.devRef .tc main_v34)) (V (Proc.devRef .tc main_cst_12)) (V (Proc.devRef .tc main_cst_13)))) := by
  rw [from7, after_append, from8_val, draw3_val,
    draw_keep _ _ _ _ _ main_arg0 (by decide) (by decide) (by decide),
    draw_keep _ _ _ _ _ main_v27 (by decide) (by decide) (by decide),
    draw_keep _ _ _ _ _ main_v6 (by decide) (by decide) (by decide)]

set_option maxRecDepth 16384 in
set_option maxHeartbeats 4000000 in
/-- The result from piece 6 on. -/
theorem from6_val (V : Valuation τ sig (Elt F)) :
    after from6 V (Proc.devRef .tc main_v59)
      = Spec.loss (V (Proc.devRef .tc main_arg0)) (Spec.scorePos (V (Proc.devRef .tc main_v5)) (V (Proc.devRef .tc main_v14))) (Spec.scoreNeg (V (Proc.devRef .tc main_v6)) (Spec.uniform 456#32)) := by
  rw [from6, after_append, from7_val]
  simp only [main3, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 5 on. -/
theorem from5_val (V : Valuation τ sig (Elt F)) :
    after from5 V (Proc.devRef .tc main_v59)
      = Spec.loss (V (Proc.devRef .tc main_arg0)) (Spec.scorePos (V (Proc.devRef .tc main_v5)) (Cert.Pre_ties_agree.fn_uniform (F := F) (V (Proc.devRef .tc main_v13)) (V (Proc.devRef .tc main_cst_3)) (V (Proc.devRef .tc main_cst_4)))) (Spec.scoreNeg (V (Proc.devRef .tc main_v6)) (Spec.uniform 456#32)) := by
  rw [from5, after_append, from6_val, draw2_val,
    draw_keep _ _ _ _ _ main_arg0 (by decide) (by decide) (by decide),
    draw_keep _ _ _ _ _ main_v5 (by decide) (by decide) (by decide),
    draw_keep _ _ _ _ _ main_v6 (by decide) (by decide) (by decide)]

set_option maxRecDepth 16384 in
set_option maxHeartbeats 4000000 in
/-- The result from piece 4 on. -/
theorem from4_val (V : Valuation τ sig (Elt F)) :
    after from4 V (Proc.devRef .tc main_v59)
      = Spec.loss (V (Proc.devRef .tc main_arg0)) (Spec.scorePos (V (Proc.devRef .tc main_v5)) (Spec.uniform 123#32)) (Spec.scoreNeg (V (Proc.devRef .tc main_v6)) (Spec.uniform 456#32)) := by
  rw [from4, after_append, from5_val]
  simp only [main2, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 3 on. -/
theorem from3_val (V : Valuation τ sig (Elt F)) :
    after from3 V (Proc.devRef .tc main_v59)
      = Spec.loss (V (Proc.devRef .tc main_arg0)) (Spec.scorePos (V (Proc.devRef .tc main_v5)) (Spec.uniform 123#32)) (Spec.scoreNeg (select (V (Proc.devRef .tc main_v4)) (broadcastInDim S4096x4096 ![] bcast_S_S4096x4096 (V (Proc.devRef .tc main_cst_0))) (V (Proc.devRef .tc main_arg0))) (Spec.uniform 456#32)) := by
  rw [from3, after_append, from4_val]
  simp only [whereThen, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 2 on. -/
theorem from2_val (V : Valuation τ sig (Elt F)) :
    after from2 V (Proc.devRef .tc main_v59)
      = Spec.loss (V (Proc.devRef .tc main_arg0)) (Spec.scorePos (V (Proc.devRef .tc main_v5)) (Spec.uniform 123#32)) (Spec.scoreNeg (select (V (Proc.devRef .tc main_v4)) (Spec.fill 0x7F800000#32) (V (Proc.devRef .tc main_arg0))) (Spec.uniform 456#32)) := by
  rw [from2, after_append, from3_val]
  simp only [main1, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 1 on. -/
theorem from1_val (V : Valuation τ sig (Elt F)) :
    after from1 V (Proc.devRef .tc main_v59)
      = Spec.loss (V (Proc.devRef .tc main_arg0)) (Spec.scorePos (select (V (Proc.devRef .tc main_v4)) (V (Proc.devRef .tc main_arg0)) (broadcastInDim S4096x4096 ![] bcast_S_S4096x4096 (V (Proc.devRef .tc main_cst)))) (Spec.uniform 123#32)) (Spec.scoreNeg (select (V (Proc.devRef .tc main_v4)) (Spec.fill 0x7F800000#32) (V (Proc.devRef .tc main_arg0))) (Spec.uniform 456#32)) := by
  rw [from1, after_append, from2_val]
  simp only [whereElse, TRef.ofBuf, TRef.toBuf, TRef.nullary, TRef.unary, TRef.binary, TRef.ternary, TRef.quaternary, TRef.reshape, cast_eq]
  after_results_simp
  rfl

set_option maxRecDepth 16384 in
set_option maxHeartbeats 4000000 in
/-- The result from piece 0 on. -/
theorem from0_val (V : Valuation τ sig (Elt F)) :
    after from0 V (Proc.devRef .tc main_v59)
      = Spec.out (V (Proc.devRef .tc main_arg0)) (V (Proc.devRef .tc main_arg1)) := by
  rw [from0, after_append, from1_val]
  simp only [main0, TRef.ofBuf, TRef.toBuf, TRef.nullary, TRef.unary, TRef.binary, TRef.ternary, TRef.quaternary, TRef.reshape, cast_eq]
  after_results_simp
  rfl

/-- The pieces of @main, without the draws' inner ones. -/
theorem from0_eq : (from0 : Ops F) = main0 ++ (whereElse (.of main_v4) (.of main_arg0) (.of main_cst) main_call0 ++ (main1
    ++ (whereThen (.of main_v4) (.of main_cst_0) (.of main_arg0) main_call1 ++ (main2
    ++ (draw (.of main_v13) (.of main_cst_3) (.of main_cst_4) main_call2 ++ (main3
    ++ (draw (.of main_v34) (.of main_cst_12) (.of main_cst_13) main_call3 ++ from8))))))) := rfl

set_option maxRecDepth 16384 in
/-- The arguments end unchanged. -/
theorem args_keep (V : Valuation τ sig (Elt F)) :
    after from0 V (Proc.devRef .tc main_arg0) = V (Proc.devRef .tc main_arg0)
      ∧ after from0 V (Proc.devRef .tc main_arg1) = V (Proc.devRef .tc main_arg1) := by
  rw [from0_eq]
  simp only [after_append]
  constructor
  all_goals
    simp only [from8, from9, from10, from11, from12, from13, from14, from15, from16, main4, argmaxRow, main5, takeRow, main6,
      main7, softplusOps, after_append, TRef.ofBuf, TRef.toBuf, TRef.nullary, TRef.unary, TRef.binary, TRef.ternary, TRef.quaternary, TRef.reshape]
    after_results_simp
    rw [draw_keep _ _ _ _ _ _ (by decide) (by decide) (by decide)]
    simp only [main3]
    after_results_simp
    rw [draw_keep _ _ _ _ _ _ (by decide) (by decide) (by decide)]
    simp only [main2, whereThen, main1, whereElse, main0, TRef.ofBuf, TRef.toBuf, TRef.nullary, TRef.unary, TRef.ternary]
    after_results_simp

/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- What the run of a straight line asks of each operation: it names buffers of the core alone and writes none fresh. -/
abbrev Plain (ops : Ops F) : Prop := ops.Forall fun op => op.bufs ⊆ tcRefs τ sig ∧ op.fresh = ∅

/-- Two plain lists of operations joined are plain. -/
theorem Plain.append {l₁ l₂ : Ops F} (h₁ : Plain l₁) (h₂ : Plain l₂) : Plain (l₁ ++ l₂) :=
  (List.forall_append).mpr ⟨h₁, h₂⟩

set_option maxRecDepth 16384 in
/-- The cipher's operations are plain. -/
theorem cipher_plain (a0 a1 : TRef sig ⟨S_, .i32⟩) (a2 a3 : TRef sig ⟨S4096x4096, .i32⟩) (φ : fn_threefry2x32.Bufs) :
    Plain (F := F) (cipherFrom0 a0 a1 a2 a3 φ) := by
  simp only [cipherFrom0, cipherFrom1, cipherFrom2, cipherFrom3, cipherFrom4, cipherFrom5, cipherFrom6, cipherFrom7, cipherFrom8, cipherFrom9]
  repeat' apply Plain.append
  all_goals
    simp only [Plain, cipher0, cipher1, cipher2, cipher3, cipher4, cipher5, cipher6, cipher7, cipher8, cipher9, List.Forall,
      nullary_bufs_sub, unary_bufs_sub, binary_bufs_sub, true_and]
    repeat' apply And.intro
    all_goals rfl

set_option maxRecDepth 16384 in
/-- A draw's operations are plain. -/
theorem draw_plain (key : TRef sig ⟨S2, .i32⟩) (lo hi : TRef sig ⟨S_, .f32⟩) (ψ : fn_uniform.Bufs) :
    Plain (F := F) (draw key lo hi ψ) := by
  refine Plain.append ?_ (Plain.append (cipher_plain _ _ _ _ _) ?_)
  all_goals
    simp only [Plain, drawHead, drawTail, List.Forall, nullary_bufs_sub, unary_bufs_sub, binary_bufs_sub, reshape_bufs_sub, true_and]
    repeat' apply And.intro
    all_goals rfl

set_option maxRecDepth 16384 in
/-- @main's operations are plain. -/
theorem main_plain : Plain (F := F) from0 := by
  rw [from0_eq]
  simp only [from8, from9, from10, from11, from12, from13, from14, from15, from16]
  refine Plain.append ?_ (Plain.append ?_ (Plain.append ?_ (Plain.append ?_ (Plain.append ?_ (Plain.append (draw_plain _ _ _ _)
    (Plain.append ?_ (Plain.append (draw_plain _ _ _ _) (Plain.append ?_ (Plain.append ?_ (Plain.append ?_ (Plain.append ?_
    (Plain.append ?_ (Plain.append ?_ (Plain.append ?_ (Plain.append ?_ ?_)))))))))))))))
  all_goals
    simp only [Plain, main0, main1, main2, main3, main4, main5, main6, main7, whereElse, whereThen, argmaxRow, takeRow, softplusOps,
        List.Forall, nullary_bufs_sub, unary_bufs_sub, binary_bufs_sub, ternary_bufs_sub, quaternary_bufs_sub, reshape_bufs_sub, true_and]
    repeat' apply And.intro
    all_goals rfl

/-- Every weakly fair execution of the reference terminates with its result at `Spec.out` of its arguments, which
    are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = Spec.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v59).trans (from0_val (launchContents m c)),
      (h c main_arg0).trans (args_keep (launchContents m c)).1, (h c main_arg1).trans (args_keep (launchContents m c)).2⟩)
    (run_seq scopedRefs_eq scopedSems_eq defs main (fun _ => from0) main_eq
      (fun _ => main_plain.imp fun _ h => h.1) m ρ fun _ op h => (List.forall_iff_forall_mem.mp main_plain op h).2)

end Cert.Proof.Ref

end
-- ==== Proof.Argmax.lean ====
module

public import proofs.«01_k».proof.Proof.Spec
public import Idealize.ShloMosaic.PureOps.Ideal.Laws
public import Idealize.ShloMosaic.Lib.ValueIdx

@[expose] public section

noncomputable section

/-! The reference's arg-max of a row over the extended reals: the first place of the largest entry. -/

namespace Cert.Proof.Argmax

open Cert.ReferenceIdeal Cert.ReferenceIdeal.Gen Idealize.ShloMosaic Idealize.ShloMosaic.ValueIdx

/-- The pair `r` is at least as good as `e`: a larger value, or the same value at no later a place. -/
def Beats (r e : EReal × BitVec 32) : Prop := e.1 < r.1 ∨ (e.1 = r.1 ∧ r.2.toInt ≤ e.2.toInt)

/-- A pair does not lose to itself. -/
theorem Beats.refl (r : EReal × BitVec 32) : Beats r r := Or.inr ⟨rfl, le_refl _⟩

/-- Winning is transitive. -/
theorem Beats.trans {r s e : EReal × BitVec 32} (h : Beats r s) (h' : Beats s e) : Beats r e := by
  rcases h with h | h <;> rcases h' with h' | h'
  · exact Or.inl (h'.trans h)
  · exact Or.inl (h'.1 ▸ h)
  · exact Or.inl (h.1 ▸ h')
  · exact Or.inr ⟨h'.1.trans h.1, h.2.trans h'.2⟩

/-- The reducer's result is one of its arguments and beats both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, k⟩ := a
  obtain ⟨y, l⟩ := b
  have e : reducer_argmax_f32_i32 (F := Ideal) (x, k) (y, l)
      = if y < x ∨ (x = y ∧ k.slt l = true) then (x, k) else (y, l) := by
    rcases lt_trichotomy x y with h | h | h
    · rw [if_neg (by simp [not_lt_of_gt h, h.ne])]
      simp [reducer_argmax_f32_i32, Ideal.cmpf_def, Ideal.cmp, not_lt_of_gt h, h.ne, Scalar.select, IntOp.ori, IntOp.andi]
    · subst h
      cases hs : k.slt l <;>
        simp [reducer_argmax_f32_i32, Ideal.cmpf_def, Ideal.cmp, Scalar.select, IntOp.ori, IntOp.andi, IntOp.cmpi, hs]
    · rw [if_pos (Or.inl h)]
      simp [reducer_argmax_f32_i32, Ideal.cmpf_def, Ideal.cmp, h, h.ne', Scalar.select, IntOp.ori, IntOp.andi]
  rw [e]
  split_ifs with h
  · refine ⟨Or.inl rfl, Beats.refl _, ?_⟩
    rcases h with h | h
    · exact Or.inl h
    · exact Or.inr ⟨h.1.symm, (BitVec.slt_iff_toInt_lt.mp h.2).le⟩
  · refine ⟨Or.inr rfl, ?_, Beats.refl _⟩
    rw [not_or, not_and] at h
    rcases lt_or_eq_of_le (not_lt.mp h.1) with h' | h'
    · exact Or.inl h'
    · refine Or.inr ⟨h', not_lt.mp fun g => h.2 h' (BitVec.slt_iff_toInt_lt.mpr g)⟩

/-- A fold of the reducer is its start or an entry of the list, and beats the start and every entry. -/
theorem fold_spec (l : List (EReal × BitVec 32)) (z : EReal × BitVec 32) :
    (l.foldl (reducer_argmax_f32_i32 (F := Ideal)) z = z ∨ l.foldl (reducer_argmax_f32_i32 (F := Ideal)) z ∈ l)
      ∧ Beats (l.foldl (reducer_argmax_f32_i32 (F := Ideal)) z) z
      ∧ ∀ e ∈ l, Beats (l.foldl (reducer_argmax_f32_i32 (F := Ideal)) z) e := by
  induction l generalizing z with
  | nil => exact ⟨Or.inl rfl, Beats.refl z, fun e he => absurd he (List.not_mem_nil)⟩
  | cons a l ih =>
    obtain ⟨h1, h2, h3⟩ := ih (reducer_argmax_f32_i32 (F := Ideal) z a)
    obtain ⟨g1, g2, g3⟩ := reducer_spec z a
    rw [List.foldl_cons]
    refine ⟨?_, h2.trans g2, fun e he => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.mp he with rfl | he
      · exact h2.trans g3
      · exact h3 e he

/-- A position below 4096, read as a signed word, is itself. -/
theorem toInt_place (k : Fin 4096) : (BitVec.ofNat 32 k.val).toInt = k.val := by
  have := k.isLt
  rw [BitVec.toInt_eq_toNat_of_lt (by rw [BitVec.toNat_ofNat]; omega), BitVec.toNat_ofNat]
  omega

/-- An arg-max over any axes: one of the entries it ranges over, or its start, and beaten by none of them. -/
theorem argReduce_spec {s t u : Shape} {axes : List (Fin s.rank)} (x : FVec Ideal s .f32) (ids : s.Idx → BitVec 32)
    (ix : FVec Ideal u .f32) (iy : u.Idx → BitVec 32) (h : s.ReducesTo axes t) (hu : 0 < u.numel) (j : t.Idx)
    (r : EReal × BitVec 32) (hr : r = Host.argReduce (reducer_argmax_f32_i32 (F := Ideal)) x ids ix iy h hu j) :
    (r = (ix (Shape.Idx.first hu), iy (Shape.Idx.first hu)) ∨ ∃ k, h.drop k = j ∧ r = (x k, ids k))
      ∧ ∀ k, h.drop k = j → Beats r (x k, ids k) := by
  have e : r = (Host.argReduceFiber x ids h j).foldl (reducer_argmax_f32_i32 (F := Ideal))
      (ix (Shape.Idx.first hu), iy (Shape.Idx.first hu)) := by
    rw [hr, Ideal.argReduce_eq_reduce2, Host.reduce2, Host.argReduceFiber, List.foldl_map]
  obtain ⟨h1, -, h3⟩ := fold_spec (Host.argReduceFiber x ids h j) (ix (Shape.Idx.first hu), iy (Shape.Idx.first hu))
  rw [← e] at h1 h3
  constructor
  · refine h1.imp id fun h1 => ?_
    simp only [Host.argReduceFiber, List.mem_map, List.mem_filter, List.mem_finRange, true_and, decide_eq_true_eq] at h1
    obtain ⟨n, hn, hn'⟩ := h1
    exact ⟨s.rowMajor.symm n, hn, hn'.symm⟩
  · intro k hk
    apply h3
    simp only [Host.argReduceFiber, List.mem_map, List.mem_filter, List.mem_finRange, true_and, decide_eq_true_eq]
    exact ⟨s.rowMajor k, by rw [Equiv.symm_apply_apply]; exact hk, by rw [Equiv.symm_apply_apply]⟩

/-- An index lies in row `i` exactly when dropping its column leaves `i`. -/
theorem drop_iff (i : Fin 4096) (k : S4096x4096.Idx) :
    reducesTo_S4096x4096_S4096_d1.drop k = ix1 i ↔ ∃ c : Fin 4096, k = ix2 i c := by
  have hv : ∀ k : S4096x4096.Idx, ((reducesTo_S4096x4096_S4096_d1.drop k 0 : Fin 4096) : ℕ) = (k 0 : Fin 4096).val :=
    fun k => reducesTo_S4096x4096_S4096_d1.drop_apply_val_of_eq k 0 0
  constructor
  · intro e
    refine ⟨k 1, (eq_ix2 k).trans ?_⟩
    have hk := hv k
    rw [e] at hk
    have : (k 0 : Fin 4096) = i := Fin.ext hk.symm
    exact congrArg (fun r : Fin 4096 => (ix2 r (k 1 : Fin 4096) : S4096x4096.Idx)) this
  · rintro ⟨c, rfl⟩
    refine (eq_ix1 _).trans ?_
    exact congrArg (fun r : Fin 4096 => (ix1 r : S4096.Idx)) (Fin.ext (hv _))

/-- The arg-max's start is below every entry. -/
theorem start_eq : (constant (F := Ideal) S_ .f32 0xFF800000#32 (Shape.Idx.first h_S_) : EReal) = ⊥ := by
  show Ideal.ofBits .f32 0xFF800000#32 = ⊥
  simp [Ideal.ofBits, Ideal.ieee]

/-- The arg-max array as a function of the index. -/
theorem argmax_fun (x : FVec Ideal S4096x4096 .f32) : Spec.argmax (F := Ideal) x = fun j =>
    (Host.argReduce reducer_argmax_f32_i32 x (iotaInDim S4096x4096 32 1) (constant S_ .f32 0xFF800000#32)
      (constantI S_ 32 0#32) reducesTo_S4096x4096_S4096_d1 h_S_ j).2 := rfl

/-- The arg-max of row `i` is its first place of the largest entry. -/
theorem argmax_spec (x : FVec Ideal S4096x4096 .f32) (i : Fin 4096) : ∃ p : Fin 4096,
    Spec.argmax (F := Ideal) x (ix1 i) = BitVec.ofNat 32 p.val ∧ (∀ k, x (ix2 i k) ≤ x (ix2 i p))
      ∧ ∀ k, x (ix2 i k) = x (ix2 i p) → p ≤ k := by
  obtain ⟨r, hr⟩ : ∃ r : EReal × BitVec 32, r = Host.argReduce (reducer_argmax_f32_i32 (F := Ideal)) x
    (iotaInDim S4096x4096 32 1) (constant S_ .f32 0xFF800000#32) (constantI S_ 32 0#32)
    reducesTo_S4096x4096_S4096_d1 h_S_ (ix1 i) := ⟨_, rfl⟩
  have hval : Spec.argmax (F := Ideal) x (ix1 i) = r.2 := by
    rw [argmax_fun, hr]
  obtain ⟨h1, h3⟩ := argReduce_spec x _ _ _ _ _ _ r hr
  rw [start_eq] at h1
  rw [hval]
  clear hval hr
  have hk : ∀ k : Fin 4096, Beats r (x (ix2 i k), BitVec.ofNat 32 k.val) :=
    fun k => h3 (ix2 i k) ((drop_iff i _).mpr ⟨k, rfl⟩)
  have key : ∃ p : Fin 4096, r = (x (ix2 i p), BitVec.ofNat 32 p.val) := by
    rcases h1 with h1 | ⟨k, hd, h1⟩
    · refine ⟨0, h1.trans ?_⟩
      have := hk 0
      rw [h1] at this
      rcases this with h | h
      · exact absurd h not_lt_bot
      · exact Prod.ext h.1.symm rfl
    · obtain ⟨c, rfl⟩ := (drop_iff i k).mp hd
      exact ⟨c, h1⟩
  obtain ⟨p, hp⟩ := key
  rw [hp] at hk
  refine ⟨p, by rw [hp], fun k => ?_, fun k e => ?_⟩
  · rcases hk k with h | h
    · exact h.le
    · exact h.1.le
  · rcases hk k with h | h
    · exact absurd e h.ne
    · have := h.2
      simp only [toInt_place] at this
      exact_mod_cast this

end Cert.Proof.Argmax

end
-- ==== Proof.Take.lean ====
module

public import proofs.«01_k».proof.Proof.Argmax
public import Idealize.ShloMosaic.Lib.Pipeline.Value

@[expose] public section

noncomputable section

/-! The reference's read of each row at a position: inside the row it is the element there. -/

namespace Cert.Proof.Take

open Cert.ReferenceIdeal Cert.ReferenceIdeal.Gen Idealize.ShloMosaic Idealize.ShloMosaic.ValueIdx

/-- The gather's dimension numbers. -/
abbrev G : GatherDims S4096x4096 S4096x1x1 S4096x1 := gather_S4096x4096_S4096x1x1_S4096x1_n_1_0_0_1_2_11

/-- Where the gather looks for row `r`'s position. -/
theorem look_at (r : Fin 4096) (h : List.idxOf (1 : Fin 2) G.startIndexMap < G.startIndexMap.length) :
    G.siIdx (ix2 r 0) ⟨List.idxOf (1 : Fin 2) G.startIndexMap, h⟩ = ix3 r 0 0 := by
  funext b
  refine Fin.ext ?_
  fin_cases b <;> rfl

/-- The gather at row `r` is the row's element at the position, read signed and clamped to the row. -/
theorem gather_at {α : Type} (x : S4096x4096.Idx → α) (q : IVec S4096x1x1 32) (r : Fin 4096) (k : Fin 4096)
    (hk : (q (ix3 r 0 0)).toInt = k.val) : Host.gather G x q (ix2 r 0) = x (ix2 r k) := by
  unfold Host.gather
  refine congrArg x (funext fun a => Fin.ext ?_)
  show G.start (ix2 r 0) q a + G.batchCoord (ix2 r 0) a + G.offCoord (ix2 r 0) a = _
  have hlt := k.isLt
  fin_cases a
  · show G.start (ix2 r 0) q 0 + G.batchCoord (ix2 r 0) 0 + G.offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    have : G.batchCoord (ix2 r 0) 0 = r.val := by
      unfold GatherDims.batchCoord
      rw [dif_pos (show (0 : Fin 2) ∈ G.operandBatchingDims from List.mem_singleton.mpr rfl)]
      rfl
    omega
  · show G.start (ix2 r 0) q 1 + G.batchCoord (ix2 r 0) 1 + G.offCoord (ix2 r 0) 1 = k.val
    rw [GatherDims.batchCoord_eq_zero _ _ _ (fun h => by simpa [G, gather_S4096x4096_S4096x1x1_S4096x1_n_1_0_0_1_2_11] using h),
      GatherDims.offCoord_eq_zero _ _ _ (fun h => ((GatherDims.mem_sKept _ _).mp h).1 (List.mem_singleton.mpr rfl))]
    have : G.start (ix2 r 0) q 1 = k.val := by
      unfold GatherDims.start
      rw [dif_pos (show (1 : Fin 2) ∈ G.startIndexMap from List.mem_singleton.mpr rfl), look_at, hk]
      show min ((k.val : ℤ).toNat) (4096 - 1) = k.val
      omega
    omega

/-- A position inside the row is left as it stands. -/
theorem place_at (p : IVec S4096x1 32) (r k : Fin 4096) (hp : p (ix2 r 0) = BitVec.ofNat 32 k.val) :
    Spec.place p (ix3 r 0 0) = BitVec.ofNat 32 k.val := by
  have h : Spec.place p (ix3 r 0 0) = select (cmpi .slt p (broadcastInDim S4096x1 ![] bcast_S_S4096x1 (constantI S_ 32 0#32)))
      (addi p (broadcastInDim S4096x1 ![] bcast_S_S4096x1 (constantI S_ 32 4096#32))) p (ix2 r 0) :=
    shapeCast_apply _ _ _ _ (by rw [Shape.rowMajor_val_two, Shape.rowMajor_val_three]; show r.val * 1 + 0 = (r.val * 1 + 0) * 1 + 0; omega)
  have hs : IntOp.cmpi .slt (p (ix2 r 0)) 0#32 = 0#1 := by
    rw [hp]
    have := Argmax.toInt_place k
    have h2 : (BitVec.ofNat 32 k.val).slt 0#32 = false := by
      rw [Bool.eq_false_iff]
      intro h
      have := BitVec.slt_iff_toInt_lt.mp h
      rw [Argmax.toInt_place] at this
      simp at this
      omega
    simp [IntOp.cmpi, h2]
  rw [h]
  show Scalar.select (IntOp.cmpi .slt (p (ix2 r 0)) 0#32) _ (p (ix2 r 0)) = _
  rw [hs, select_zero, hp]

/-- A fold over one place. -/
theorem fold_one (b : BitVec 1) (f : Fin 1 → BitVec 1) : Finset.univ.fold IntOp.andi b f = IntOp.andi (f 0) b :=
  Finset.fold_singleton

/-- A position inside the row is found there. -/
theorem inRow_at (q : IVec S4096x1x1 32) (r k : Fin 4096) (hq : q (ix3 r 0 0) = BitVec.ofNat 32 k.val) :
    Spec.inRow q (ix2 r 0) = 1#1 := by
  have hr : S4096x1x1.Reduces [2] S4096x1 := by decide
  have e : ∀ z : Fin 1, hr.lift (ix2 r 0) z = ix3 r 0 0 := fun z => by
    refine (eq_ix3 _).trans ?_
    have : z = 0 := Subsingleton.elim _ _
    subst this
    rfl
  have hk := k.isLt
  have hc : IntOp.andi (IntOp.cmpi .sge (q (ix3 r 0 0)) 0#32) (IntOp.cmpi .sle (q (ix3 r 0 0)) 4095#32) = 1#1 := by
    have h1 : (0#32).sle (BitVec.ofNat 32 k.val) = true := by
      rw [BitVec.sle_iff_toInt_le, Argmax.toInt_place]; simp
    have h2 : (BitVec.ofNat 32 k.val).sle 4095#32 = true := by
      rw [BitVec.sle_iff_toInt_le, Argmax.toInt_place]
      show (k.val : ℤ) ≤ 4095
      omega
    rw [hq]
    simp [IntOp.cmpi, IntOp.andi, h1, h2]
  unfold Spec.inRow
  beta_reduce
  rw [Host.reduce_eq_fold_single _ _ _ _ hr]
  refine (fold_one _ _).trans ?_
  show IntOp.andi (IntOp.andi (IntOp.cmpi .sge (q (hr.lift (ix2 r 0) (0 : Fin 1))) 0#32)
    (IntOp.cmpi .sle (q (hr.lift (ix2 r 0) (0 : Fin 1))) 4095#32)) 1#1 = 1#1
  rw [e, hc]
  rfl

/-- A row read where its scores are largest. -/
theorem pick_at (x s : FVec Ideal S4096x4096 .f32) (r k : Fin 4096)
    (hk : Spec.argmax (F := Ideal) s (ix1 r) = BitVec.ofNat 32 k.val) : Spec.pick (F := Ideal) x s (ix1 r) = x (ix2 r k) := by
  have hp : broadcastInDim S4096x1 ![0] bcast_S4096_S4096x1_0 (Spec.argmax (F := Ideal) s) (ix2 r 0) = BitVec.ofNat 32 k.val := by
    rw [broadcastInDim_apply _ _ _ _ (ix1 r) fun a => by fin_cases a; rfl, hk]
  have hq := place_at _ r k hp
  have h : Spec.pick (F := Ideal) x s (ix1 r)
      = Spec.take x (broadcastInDim S4096x1 ![0] bcast_S4096_S4096x1_0 (Spec.argmax (F := Ideal) s)) (ix2 r 0) :=
    shapeCast_apply _ _ _ _ (by rw [Shape.rowMajor_val_two, Shape.rowMajor_val_one]; show r.val * 1 + 0 = r.val; omega)
  rw [h, Spec.take, select_apply, inRow_at _ r k hq, select_one, gather_at x _ r k (by rw [hq, Argmax.toInt_place])]

end Cert.Proof.Take

end
-- ==== Proof.Cipher.lean ====
module

public import proofs.«01_k».proof.Defs
public import proofs.«01_k».proof.Proof.Gen.Pre_ties_agree
public import proofs.«01_k».proof.Proof.Gen.KernelIdeal.Frame

@[expose] public section

noncomputable section

/-! The block cipher on one counter, and that both programs' arrays of draws hold it place by place. -/

namespace Cert.Proof.Cipher

open Idealize.ShloMosaic

/-- One round: the words added, the second turned by `a` (`b` is the rest of the word) and mixed into the sum. -/
def turn (a b : BitVec 32) (p : BitVec 32 × BitVec 32) : BitVec 32 × BitVec 32 :=
  (p.1 + p.2, (p.1 + p.2) ^^^ ((p.2 <<< a) ||| (p.2 >>> b)))

/-- Four rounds by 13, 15, 26, 6. -/
def roundsA (p : BitVec 32 × BitVec 32) : BitVec 32 × BitVec 32 :=
  turn 6#32 26#32 (turn 26#32 6#32 (turn 15#32 17#32 (turn 13#32 19#32 p)))

/-- Four rounds by 17, 29, 16, 24. -/
def roundsB (p : BitVec 32 × BitVec 32) : BitVec 32 × BitVec 32 :=
  turn 24#32 8#32 (turn 16#32 16#32 (turn 29#32 3#32 (turn 17#32 15#32 p)))

/-- Key words added in after a group of rounds, with the group's number. -/
def inject (a b n : BitVec 32) (p : BitVec 32 × BitVec 32) : BitVec 32 × BitVec 32 := (p.1 + a, p.2 + b + n)

/-- The third key word. -/
def third (k0 k1 : BitVec 32) : BitVec 32 := k0 ^^^ k1 ^^^ 466688986#32

/-- The cipher of one counter. -/
def cipher (k0 k1 hi lo : BitVec 32) : BitVec 32 × BitVec 32 :=
  inject (third k0 k1) k0 5#32 (roundsA (inject k1 (third k0 k1) 4#32 (roundsB (inject k0 k1 3#32
    (roundsA (inject (third k0 k1) k0 2#32 (roundsB (inject k1 (third k0 k1) 1#32 (roundsA (hi + k0, lo + k1))))))))))

section Host

open Cert.Pre_ties_agree Cert.Pre_ties_agree.Gen

/-- One word in every place of a square array. -/
def splat (a : BitVec 32) : IVec S4096x4096 32 := broadcastInDim S4096x4096 ![] bcast_S_S4096x4096 (constantI S_ 32 a)

/-- `turn` on arrays, in the reference's operations. -/
def turnH (a b : BitVec 32) (p : IVec S4096x4096 32 × IVec S4096x4096 32) : IVec S4096x4096 32 × IVec S4096x4096 32 :=
  (addi p.1 p.2, xori (addi p.1 p.2) (ori (Host.shli p.2 (splat a)) (Host.shrui p.2 (splat b))))

/-- `inject` on arrays, in the reference's operations. -/
def injectH (a b : IVec S_ 32) (n : BitVec 32) (p : IVec S4096x4096 32 × IVec S4096x4096 32) :
    IVec S4096x4096 32 × IVec S4096x4096 32 :=
  (addi p.1 (broadcastInDim S4096x4096 ![] bcast_S_S4096x4096 a),
   addi (addi p.2 (broadcastInDim S4096x4096 ![] bcast_S_S4096x4096 b)) (splat n))

/-- `roundsA` on arrays. -/
def roundsAH (p : IVec S4096x4096 32 × IVec S4096x4096 32) : IVec S4096x4096 32 × IVec S4096x4096 32 :=
  turnH 6#32 26#32 (turnH 26#32 6#32 (turnH 15#32 17#32 (turnH 13#32 19#32 p)))

/-- `roundsB` on arrays. -/
def roundsBH (p : IVec S4096x4096 32 × IVec S4096x4096 32) : IVec S4096x4096 32 × IVec S4096x4096 32 :=
  turnH 24#32 8#32 (turnH 16#32 16#32 (turnH 29#32 3#32 (turnH 17#32 15#32 p)))

/-- The third key word, in the reference's operations. -/
def thirdH (a b : IVec S_ 32) : IVec S_ 32 := xori (xori a b) (constantI S_ 32 466688986#32)

set_option maxRecDepth 16384 in
set_option maxHeartbeats 4000000 in
/-- The reference's cipher, round by round. -/
theorem threefry_eq {F : FTy → Type} [FloatOps F] (a b : IVec S_ 32) (c d : IVec S4096x4096 32) :
    fn_threefry2x32 (F := F) a b c d
      = injectH (thirdH a b) a 5#32 (roundsAH (injectH b (thirdH a b) 4#32 (roundsBH (injectH a b 3#32
    (roundsAH (injectH (thirdH a b) a 2#32 (roundsBH (injectH b (thirdH a b) 1#32 (roundsAH
      (addi c (broadcastInDim S4096x4096 ![] bcast_S_S4096x4096 a), addi d (broadcastInDim S4096x4096 ![] bcast_S_S4096x4096 b))))))))))) := by
  simp only [fn_threefry2x32, fn_threefry2x32_part1, fn_threefry2x32_part2, fn_threefry2x32_part3, fn_threefry2x32_part4,
    fn_threefry2x32_part5, fn_threefry2x32_part6, fn_threefry2x32_part7, fn_threefry2x32_part8, fn_threefry2x32_part9,
    injectH, roundsAH, roundsBH, turnH, thirdH, splat]

/-- Both words of a pair of arrays at one place. -/
def pairAt {ι : Type} (p : (ι → BitVec 32) × (ι → BitVec 32)) (j : ι) : BitVec 32 × BitVec 32 := (p.1 j, p.2 j)

/-- A shift to the left by less than the width. -/
theorem shli_lt (u : ArithUnit) (x a : BitVec 32) (h : a.toNat < 32) : IntOp.shli u x a = x <<< a := if_pos h

/-- A shift to the right by less than the width. -/
theorem shrui_lt (u : ArithUnit) (x a : BitVec 32) (h : a.toNat < 32) : IntOp.shrui u x a = x >>> a := if_pos h

/-- A broadcast scalar at a place. -/
theorem bcast_at {α : Type} (a : S_.Idx → α) (z : S_.Idx) (j : S4096x4096.Idx) :
    broadcastInDim S4096x4096 ![] bcast_S_S4096x4096 a j = a z := congrArg a (funext fun k => k.elim0)

/-- A round at a place. -/
theorem turnH_at (a b : BitVec 32) (ha : a.toNat < 32) (hb : b.toNat < 32) (p : IVec S4096x4096 32 × IVec S4096x4096 32)
    (j : S4096x4096.Idx) : pairAt (turnH a b p) j = turn a b (pairAt p j) :=
  congrArg₂ (fun u v => (p.1 j + p.2 j, (p.1 j + p.2 j) ^^^ (u ||| v))) (shli_lt .host (p.2 j) a ha) (shrui_lt .host (p.2 j) b hb)

/-- Key words added in, at a place. -/
theorem injectH_at (a b : IVec S_ 32) (z : S_.Idx) (n : BitVec 32) (p : IVec S4096x4096 32 × IVec S4096x4096 32)
    (j : S4096x4096.Idx) : pairAt (injectH a b n p) j = inject (a z) (b z) n (pairAt p j) :=
  congrArg₂ (fun u v => (p.1 j + u, p.2 j + v + n)) (bcast_at a z j) (bcast_at b z j)

/-- The reference's first four rounds act element by element. -/
theorem roundsAH_at (p : IVec S4096x4096 32 × IVec S4096x4096 32) (j : S4096x4096.Idx) :
    pairAt (roundsAH p) j = roundsA (pairAt p j) := by
  rw [roundsAH, roundsA, turnH_at 6#32 26#32 (by decide) (by decide), turnH_at 26#32 6#32 (by decide) (by decide),
    turnH_at 15#32 17#32 (by decide) (by decide), turnH_at 13#32 19#32 (by decide) (by decide)]

/-- The reference's other four rounds act element by element. -/
theorem roundsBH_at (p : IVec S4096x4096 32 × IVec S4096x4096 32) (j : S4096x4096.Idx) :
    pairAt (roundsBH p) j = roundsB (pairAt p j) := by
  rw [roundsBH, roundsB, turnH_at 24#32 8#32 (by decide) (by decide), turnH_at 16#32 16#32 (by decide) (by decide),
    turnH_at 29#32 3#32 (by decide) (by decide), turnH_at 17#32 15#32 (by decide) (by decide)]

/-- The reference's cipher at a place. -/
theorem threefry_at {F : FTy → Type} [FloatOps F] (a b : IVec S_ 32) (c d : IVec S4096x4096 32) (z : S_.Idx) (j : S4096x4096.Idx) :
    pairAt (fn_threefry2x32 (F := F) a b c d) j = cipher (a z) (b z) (c j) (d j) := by
  have h0 : pairAt (addi c (broadcastInDim S4096x4096 ![] bcast_S_S4096x4096 a), addi d (broadcastInDim S4096x4096 ![] bcast_S_S4096x4096 b)) j
      = (c j + a z, d j + b z) := congrArg₂ (fun u v => (c j + u, d j + v)) (bcast_at a z j) (bcast_at b z j)
  have h3 : thirdH a b z = third (a z) (b z) := rfl
  rw [threefry_eq]
  simp only [injectH_at _ _ z, roundsAH_at, roundsBH_at, h0, h3, cipher]

end Host

section Kernel

open Cert.KernelIdeal Cert.KernelIdeal.Gen

/-- `turn` on a block, in the kernel's operations. -/
def turnK (a b : BitVec 32) (p : IVec S256x4096 32 × IVec S256x4096 32) : IVec S256x4096 32 × IVec S256x4096 32 :=
  (addi p.1 p.2, xori (addi p.1 p.2) (ori (shli p.2 (broadcast S256x4096 a)) (shrui p.2 (broadcast S256x4096 b))))

/-- The first round on a block: its first word is zero, and the kernel leaves the addition out. -/
def firstK (x : IVec S256x4096 32) : IVec S256x4096 32 × IVec S256x4096 32 :=
  (x, xori (ori (shli x (broadcast S256x4096 13#32)) (shrui x (broadcast S256x4096 19#32))) x)

/-- `roundsB` on a block. -/
def roundsBK (p : IVec S256x4096 32 × IVec S256x4096 32) : IVec S256x4096 32 × IVec S256x4096 32 :=
  turnK 24#32 8#32 (turnK 16#32 16#32 (turnK 29#32 3#32 (turnK 17#32 15#32 p)))

/-- `roundsA` after its first round, on a block. -/
def roundsAK (p : IVec S256x4096 32 × IVec S256x4096 32) : IVec S256x4096 32 × IVec S256x4096 32 :=
  turnK 6#32 26#32 (turnK 26#32 6#32 (turnK 15#32 17#32 p))

/-- `inject` on a block, in the kernel's operations. -/
def injectK (a b : IVec S256x4096 32) (n : BitVec 32) (p : IVec S256x4096 32 × IVec S256x4096 32) :
    IVec S256x4096 32 × IVec S256x4096 32 := (addi p.1 a, addi (addi p.2 b) (broadcast S256x4096 n))

/-- `inject` on a block where the second key word is zero. -/
def injectLK (a : IVec S256x4096 32) (n : BitVec 32) (p : IVec S256x4096 32 × IVec S256x4096 32) :
    IVec S256x4096 32 × IVec S256x4096 32 := (addi p.1 a, addi p.2 (broadcast S256x4096 n))

/-- `inject` on a block where the first key word is zero. -/
def injectRK (b : IVec S256x4096 32) (n : BitVec 32) (p : IVec S256x4096 32 × IVec S256x4096 32) :
    IVec S256x4096 32 × IVec S256x4096 32 := (p.1, addi (addi p.2 b) (broadcast S256x4096 n))

/-- The kernel's two words on a block from its key `k`, its third key word `k2` and its first sum `x`. -/
def wordsK (k k2 x : IVec S256x4096 32) : IVec S256x4096 32 × IVec S256x4096 32 :=
  injectLK k2 5#32 (roundsAK (turnK 13#32 19#32 (injectK k k2 4#32 (roundsBK (injectRK k 3#32
    (roundsAK (turnK 13#32 19#32 (injectLK k2 2#32 (roundsBK (injectK k k2 1#32 (roundsAK (firstK x))))))))))))

set_option maxRecDepth 16384 in
set_option maxHeartbeats 4000000 in
/-- The kernel's cipher, round by round. -/
theorem pay53_eq {F : FTy → Type} [FloatOps F] (i : grid0.Coords) (x0 : Vec F S256x1 .i32) (x1 : Vec F S1x4096 .i32) (x2 : Vec F S256x4096 .f32) :
    k0_pay53 i x0 x1 x2 = shrui (xori (wordsK (k0_pay3 (View.ld x0 r0_1) (View.ld x1 r0_2)) (k0_pay4 (View.ld x0 r0_1) (View.ld x1 r0_2))
        (k0_pay5 i (View.ld x0 r0_1) (View.ld x1 r0_2))).1
      (wordsK (k0_pay3 (View.ld x0 r0_1) (View.ld x1 r0_2)) (k0_pay4 (View.ld x0 r0_1) (View.ld x1 r0_2))
        (k0_pay5 i (View.ld x0 r0_1) (View.ld x1 r0_2))).2) (broadcast S256x4096 9#32) := by
  simp only [k0_pay53, k0_pay52, k0_pay51, k0_pay50, k0_pay49, k0_pay48, k0_pay47, k0_pay46, k0_pay45,
    k0_pay37, k0_pay36, k0_pay35, k0_pay34, k0_pay33, k0_pay32, k0_pay31, k0_pay30, k0_pay29, k0_pay28, k0_pay27, k0_pay26,
    k0_pay25, k0_pay24, k0_pay23, k0_pay22, k0_pay21, k0_pay20, k0_pay19, k0_pay18, k0_pay17, k0_pay16, k0_pay15, k0_pay14,
    k0_pay13, k0_pay12, k0_pay11, k0_pay10, k0_pay9, k0_pay8, k0_pay7, k0_pay6,
    wordsK, injectK, injectLK, injectRK, roundsAK, roundsBK, turnK, firstK]

/-- A round at a place. -/
theorem turnK_at (a b : BitVec 32) (ha : a.toNat < 32) (hb : b.toNat < 32) (p : IVec S256x4096 32 × IVec S256x4096 32)
    (j : S256x4096.Idx) : pairAt (turnK a b p) j = turn a b (pairAt p j) :=
  congrArg₂ (fun u v => (p.1 j + p.2 j, (p.1 j + p.2 j) ^^^ (u ||| v))) (shli_lt .vector (p.2 j) a ha) (shrui_lt .vector (p.2 j) b hb)

/-- The first round at a place. -/
theorem firstK_at (x : IVec S256x4096 32) (j : S256x4096.Idx) : pairAt (firstK x) j = turn 13#32 19#32 (0#32, x j) := by
  have h : pairAt (firstK x) j = (x j, ((x j <<< 13#32) ||| (x j >>> 19#32)) ^^^ x j) :=
    congrArg₂ (fun u v => (x j, (u ||| v) ^^^ x j)) (shli_lt .vector (x j) 13#32 (by decide)) (shrui_lt .vector (x j) 19#32 (by decide))
  rw [h, turn, BitVec.zero_add, BitVec.xor_comm]

/-- The kernel's first four rounds act element by element. -/
theorem roundsAK_at (p : IVec S256x4096 32 × IVec S256x4096 32) (j : S256x4096.Idx) :
    pairAt (roundsAK p) j = turn 6#32 26#32 (turn 26#32 6#32 (turn 15#32 17#32 (pairAt p j))) := by
  rw [roundsAK, turnK_at 6#32 26#32 (by decide) (by decide), turnK_at 26#32 6#32 (by decide) (by decide),
    turnK_at 15#32 17#32 (by decide) (by decide)]

/-- The kernel's other four rounds act element by element. -/
theorem roundsBK_at (p : IVec S256x4096 32 × IVec S256x4096 32) (j : S256x4096.Idx) :
    pairAt (roundsBK p) j = roundsB (pairAt p j) := by
  rw [roundsBK, roundsB, turnK_at 24#32 8#32 (by decide) (by decide), turnK_at 16#32 16#32 (by decide) (by decide),
    turnK_at 29#32 3#32 (by decide) (by decide), turnK_at 17#32 15#32 (by decide) (by decide)]

/-- Adding key words to both halves acts element by element. -/
theorem injectK_at (a b : IVec S256x4096 32) (n : BitVec 32) (p : IVec S256x4096 32 × IVec S256x4096 32)
    (j : S256x4096.Idx) : pairAt (injectK a b n p) j = inject (a j) (b j) n (pairAt p j) := rfl

/-- Adding a key word to the first half and a number to the second acts element by element. -/
theorem injectLK_at (a : IVec S256x4096 32) (n : BitVec 32) (p : IVec S256x4096 32 × IVec S256x4096 32)
    (j : S256x4096.Idx) : pairAt (injectLK a n p) j = inject (a j) 0#32 n (pairAt p j) := by
  rw [inject, BitVec.add_zero]; rfl

/-- Adding a key word and a number to the second half alone acts element by element. -/
theorem injectRK_at (b : IVec S256x4096 32) (n : BitVec 32) (p : IVec S256x4096 32 × IVec S256x4096 32)
    (j : S256x4096.Idx) : pairAt (injectRK b n p) j = inject 0#32 (b j) n (pairAt p j) := by
  rw [inject, BitVec.add_zero]; rfl

/-- The kernel's two words at a place are the cipher's, the first key word and the counter's high word zero. -/
theorem wordsK_at (k k2 x : IVec S256x4096 32) (lo : BitVec 32) (j : S256x4096.Idx) (h2 : k2 j = k j ^^^ 466688986#32)
    (hx : x j = lo + k j) : pairAt (wordsK k k2 x) j = cipher 0#32 (k j) 0#32 lo := by
  have h3 : k2 j = third 0#32 (k j) := by rw [h2, third, BitVec.zero_xor]
  simp only [wordsK, injectK_at, injectLK_at, injectRK_at, roundsAK_at, roundsBK_at,
    turnK_at 13#32 19#32 (by decide) (by decide), firstK_at, h3, hx, cipher, roundsA, BitVec.add_zero]

end Kernel

end Cert.Proof.Cipher

end
-- ==== Proof.Noise.lean ====
module

public import Idealize.ShloMosaic.PureOps.Ideal
public import Idealize.ShloMosaic.Lib.IdealHost

@[expose] public section

noncomputable section

/-! The noise one word of random bits gives, over the extended reals: a finite number, and the same by the kernel's
    spelling and by the reference's. -/

namespace Cert.Proof.Noise

open Idealize.ShloMosaic

/-- The least positive normal number. -/
def tiny : EReal := Ideal.ofBits .f32 0x00800000#32

/-- The number between 1 and 2 whose fraction is the word's upper 23 bits. -/
def lifted (b : BitVec 32) : EReal := Ideal.ofBits .f32 (b >>> 9#32 ||| 1065353216#32)

/-- The logarithm of the negated logarithm of the uniform draw: the opposite of the Gumbel noise. -/
def nlog (b : BitVec 32) : EReal := Ideal.log (-(Ideal.log (lifted b - 1 + tiny)))

/-- The smallest normal float is a power of two. -/
theorem tiny_eq : tiny = (((2 : ℝ) ^ (-126 : ℤ) : ℝ) : EReal) := by
  have h1 : (BitVec.extractLsb' 31 1 (0x00800000#32) == 1#1) = false := by decide
  have h2 : (BitVec.extractLsb' 23 8 (0x00800000#32)).toNat = 1 := by decide
  have h3 : (BitVec.extractLsb' 0 23 (0x00800000#32)).toNat = 0 := by decide
  simp only [tiny, Ideal.ofBits, Ideal.ieee, h1, h2, h3]
  norm_num

/-- The upper 23 bits of a word are fewer than 2²³. -/
theorem frac_lt (b : BitVec 32) : (b >>> 9#32).toNat < 2 ^ 23 := by
  have := b.isLt
  rw [BitVec.ushiftRight_eq', BitVec.toNat_ushiftRight, Nat.shiftRight_eq_div_pow, show (9#32).toNat = 9 from rfl]
  omega

/-- The word of a number between 1 and 2, as a number. -/
theorem lifted_toNat (b : BitVec 32) : (b >>> 9#32 ||| 1065353216#32).toNat = 127 * 2 ^ 23 + (b >>> 9#32).toNat := by
  have h := frac_lt b
  have e := Nat.shiftLeft_add_eq_or_of_lt h 127
  rw [BitVec.toNat_or, Nat.or_comm, show (1065353216#32).toNat = 127 <<< 23 by decide, ← e, Nat.shiftLeft_eq]

/-- The float that a word's high bits make lies in [1, 2), at the fraction those bits say. -/
theorem lifted_eq (b : BitVec 32) : lifted b = ((1 + ((b >>> 9#32).toNat : ℝ) / 2 ^ 23 : ℝ) : EReal) := by
  have h := frac_lt b
  have hw := lifted_toNat b
  have h1 : (BitVec.extractLsb' 31 1 (b >>> 9#32 ||| 1065353216#32) == 1#1) = false := by
    rw [beq_eq_false_iff_ne, ne_eq, ← BitVec.toNat_inj, BitVec.extractLsb'_toNat, hw, Nat.shiftRight_eq_div_pow]
    norm_num
    omega
  have h2 : (BitVec.extractLsb' 23 8 (b >>> 9#32 ||| 1065353216#32)).toNat = 127 := by
    rw [BitVec.extractLsb'_toNat, hw, Nat.shiftRight_eq_div_pow]
    omega
  have h3 : (BitVec.extractLsb' 0 23 (b >>> 9#32 ||| 1065353216#32)).toNat = (b >>> 9#32).toNat := by
    rw [BitVec.extractLsb'_toNat, hw, Nat.shiftRight_eq_div_pow]
    omega
  simp only [lifted, Ideal.ofBits, Ideal.ieee, h1, h2, h3]
  generalize (b >>> 9#32).toNat = k
  have e : ((127 : ℕ) : ℤ) - (2 ^ (8 - 1) - 1) - (23 : ℕ) = -23 := by norm_num
  rw [if_neg (by norm_num), if_neg (by norm_num), e]
  congr 1
  push_cast
  norm_num
  ring

/-- The uniform draw the noise is made of. -/
def draw (b : BitVec 32) : ℝ := ((b >>> 9#32).toNat : ℝ) / 2 ^ 23

/-- A draw is not negative. -/
theorem draw_nonneg (b : BitVec 32) : 0 ≤ draw b := by unfold draw; positivity

/-- That float less one is the draw. -/
theorem lifted_sub (b : BitVec 32) : lifted b - 1 = (draw b : EReal) := by
  rw [lifted_eq, ← EReal.coe_one, ← EReal.coe_sub, draw]
  congr 1
  ring

/-- A draw stays below one after the smallest normal float is added. -/
theorem draw_add_lt (b : BitVec 32) : draw b + (2 : ℝ) ^ (-126 : ℤ) < 1 := by
  have h' : (b >>> 9#32).toNat + 1 ≤ 2 ^ 23 := frac_lt b
  unfold draw
  generalize (b >>> 9#32).toNat = k at h' ⊢
  have h : (k : ℝ) ≤ 2 ^ 23 - 1 := by
    have : ((k + 1 : ℕ) : ℝ) ≤ ((2 ^ 23 : ℕ) : ℝ) := by exact_mod_cast h'
    push_cast at this
    linarith
  have h2 : (2 : ℝ) ^ (-126 : ℤ) < 1 / 2 ^ 23 := by norm_num
  have h3 : (k : ℝ) / 2 ^ 23 ≤ (2 ^ 23 - 1) / 2 ^ 23 := by gcongr
  have h4 : ((2 : ℝ) ^ 23 - 1) / 2 ^ 23 = 1 - 1 / 2 ^ 23 := by norm_num
  linarith

/-- The noise is finite. -/
theorem nlog_real (b : BitVec 32) : ∃ r : ℝ, nlog b = r := by
  have h0 := draw_nonneg b
  have ht : (0 : ℝ) < (2 : ℝ) ^ (-126 : ℤ) := by positivity
  have h1 := draw_add_lt b
  have hpos : ¬(draw b + (2 : ℝ) ^ (-126 : ℤ) ≤ 0) := by linarith
  have hlog : Real.log (draw b + (2 : ℝ) ^ (-126 : ℤ)) < 0 := Real.log_neg (by linarith) h1
  have hneg : ¬(-Real.log (draw b + (2 : ℝ) ^ (-126 : ℤ)) ≤ 0) := by linarith
  exact ⟨Real.log (-Real.log (draw b + (2 : ℝ) ^ (-126 : ℤ))), by
    rw [nlog, lifted_sub, tiny_eq, ← EReal.coe_add, Ideal.log_coe, if_neg hpos, ← EReal.coe_neg, Ideal.log_coe, if_neg hneg]⟩

/-- The reference's spelling of the noise: its draw scaled to [0, 1), then to [tiny, 1]. -/
theorem gumbel_eq (b : BitVec 32) :
    -(Ideal.log (-(Ideal.log (max tiny (max 0 ((lifted b - 1) * (1 - 0) + 0) * 1 + tiny))))) = -(nlog b) := by
  have h0 : (0 : EReal) ≤ (draw b : EReal) := by exact_mod_cast draw_nonneg b
  rw [nlog, lifted_sub, sub_zero, add_zero, mul_one, mul_one, max_eq_right h0, max_eq_right]
  calc tiny = 0 + tiny := (zero_add _).symm
    _ ≤ (draw b : EReal) + tiny := add_le_add_left h0 tiny

end Cert.Proof.Noise

end
-- ==== Proof.Draws.lean ====
module

public import proofs.«01_k».proof.Proof.Spec
public import proofs.«01_k».proof.Proof.Cipher
public import proofs.«01_k».proof.Proof.Noise
public import Idealize.ShloMosaic.Lib.ValueIdx
public import Idealize.ShloMosaic.Lib.Pipeline.Value
public import Idealize.ShloMosaic.Lib.IdealHost

@[expose] public section

noncomputable section

/-! The reference's uniform draws at a place: 23 bits of the two cipher words of the place's number, under the seed. -/

namespace Cert.Proof.Draws

open Cert.Pre_ties_agree Cert.Pre_ties_agree.Gen Idealize.ShloMosaic Idealize.ShloMosaic.ValueIdx Cert.Proof.Noise

/-- The number of place `(r, c)` of the square array. -/
def number (r c : Fin 4096) : BitVec 32 := BitVec.ofNat 32 (r.val * 4096 + c.val)

/-- The random word of seed `s` at a place: the two cipher words, combined. -/
def bits (s : BitVec 32) (r c : Fin 4096) : BitVec 32 :=
  (Cipher.cipher 0#32 s 0#32 (number r c)).1 ^^^ (Cipher.cipher 0#32 s 0#32 (number r c)).2

/-- The key's first word, as the cipher takes it. -/
def word0 (k : IVec S2 32) : IVec S_ 32 := shapeCast S_ (extractStridedSlice S1 ![0] k slices_S2_S1_0) shapeCasts_S1_S_

/-- The key's second word, as the cipher takes it. -/
def word1 (k : IVec S2 32) : IVec S_ 32 := shapeCast S_ (extractStridedSlice S1 ![1] k slices_S2_S1_1) shapeCasts_S1_S_

/-- Every place's number in 64 bits. -/
def count : IVec S4096x4096 64 :=
  addi (muli (broadcastInDim S4096x4096 ![] bcast_S_S4096x4096 (constantI S_ 64 4096#64)) (iotaInDim S4096x4096 64 0))
    (muli (broadcastInDim S4096x4096 ![] bcast_S_S4096x4096 (constantI S_ 64 1#64)) (iotaInDim S4096x4096 64 1))

/-- The low words of the numbers. -/
def low : IVec S4096x4096 32 := trunci 32 count natLt_32_64

/-- The high words of the numbers. -/
def high : IVec S4096x4096 32 :=
  trunci 32 (Host.shrui count (broadcastInDim S4096x4096 ![] bcast_S_S4096x4096 (constantI S_ 64 32#64))) natLt_32_64

/-- The draws from the cipher words. -/
theorem uniform_eq {F : FTy → Type} [FloatOps F] (s : BitVec 32) : Spec.uniform (F := F) s = fn_uniform_part1 (F := F)
    (broadcastInDim S1x1 ![] bcast_S_S1x1 (constant S_ .f32 0x00000000#32))
    (broadcastInDim S1x1 ![] bcast_S_S1x1 (constant S_ .f32 0x3F800000#32))
    (fn_threefry2x32 (F := F) (word0 (Spec.keyOf s)) (word1 (Spec.keyOf s)) high low).1
    (fn_threefry2x32 (F := F) (word0 (Spec.keyOf s)) (word1 (Spec.keyOf s)) high low).2 := rfl

/-- A place's 64-bit number. -/
theorem count_at (r c : Fin 4096) : count (ix2 r c) = BitVec.ofNat 64 (r.val * 4096 + c.val) := by
  have h : count (ix2 r c) = 4096#64 * BitVec.ofNat 64 r.val + 1#64 * BitVec.ofNat 64 c.val := rfl
  have hr := r.isLt
  have hc := c.isLt
  rw [h]
  apply BitVec.eq_of_toNat_eq
  simp only [BitVec.toNat_add, BitVec.toNat_mul, BitVec.toNat_ofNat]
  omega

/-- Its low word is the place's number. -/
theorem low_at (r c : Fin 4096) : low (ix2 r c) = number r c := by
  have h : low (ix2 r c) = (count (ix2 r c)).setWidth 32 := rfl
  have hr := r.isLt
  have hc := c.isLt
  rw [h, count_at, number]
  apply BitVec.eq_of_toNat_eq
  simp only [BitVec.toNat_setWidth, BitVec.toNat_ofNat]
  omega

/-- Its high word is zero. -/
theorem high_at (r c : Fin 4096) : high (ix2 r c) = 0#32 := by
  have h : high (ix2 r c) = (Host.shrui count (broadcastInDim S4096x4096 ![] bcast_S_S4096x4096 (constantI S_ 64 32#64)) (ix2 r c)).setWidth 32 := rfl
  have h' : Host.shrui count (broadcastInDim S4096x4096 ![] bcast_S_S4096x4096 (constantI S_ 64 32#64)) (ix2 r c)
      = count (ix2 r c) >>> 32 := by
    show IntOp.shrui .host (count (ix2 r c)) 32#64 = _
    simp [IntOp.shrui]
  have hr := r.isLt
  have hc := c.isLt
  rw [h, h', count_at]
  apply BitVec.eq_of_toNat_eq
  simp only [BitVec.toNat_setWidth, BitVec.toNat_ushiftRight, BitVec.toNat_ofNat, Nat.shiftRight_eq_div_pow]
  omega

/-- The two words of a key, put side by side. -/
theorem keyOf_eq (s : BitVec 32) : Spec.keyOf s = concatenate S2 0
    [⟨S1, fun _ => IntOp.shrui .host s 32#32⟩, ⟨S1, fun _ => s &&& 4294967295#32⟩]
    Cert.ReferenceIdeal.Gen.concatenates_S1_S1_S2_d0 := rfl

/-- The key's first word is zero. -/
theorem word0_at (s : BitVec 32) (z : S_.Idx) : word0 (Spec.keyOf s) z = 0#32 := by
  have h : word0 (Spec.keyOf s) z = Spec.keyOf s (ix1 0) :=
    (shapeCast_apply _ _ z (ix1 0) (by have := (S_.rowMajor z).isLt; rw [Shape.rowMajor_val_one]; simp_all [Shape.numel])).trans
      (extractStridedSlice_apply _ _ _ _ (ix1 0) fun a => by fin_cases a; rfl)
  rw [h]
  rw [keyOf_eq, concatenate_pair_apply_left (t := S2) (s₁ := S1) (s₂ := S1) 0 _ _ _ (ix1 0) rfl (ix1 0) fun b => by fin_cases b; rfl]
  rw [shrui_host, shrui_32]

/-- The key's second word is the seed. -/
theorem word1_at (s : BitVec 32) (z : S_.Idx) : word1 (Spec.keyOf s) z = s := by
  have h : word1 (Spec.keyOf s) z = Spec.keyOf s (ix1 1) :=
    (shapeCast_apply _ _ z (ix1 0) (by have := (S_.rowMajor z).isLt; rw [Shape.rowMajor_val_one]; simp_all [Shape.numel])).trans
      (extractStridedSlice_apply _ _ _ _ (ix1 1) fun a => by fin_cases a; rfl)
  rw [h]
  rw [keyOf_eq, concatenate_pair_apply_right (t := S2) (s₁ := S1) (s₂ := S1) 0 _ _ _ (ix1 1) rfl rfl (ix1 0)
    (fun b hb => absurd (by fin_cases b; rfl) hb) rfl]
  exact BitVec.and_allOnes

/-- The draw at a place. -/
theorem uniform_at (s : BitVec 32) (r c : Fin 4096) :
    Spec.uniform (F := Ideal) s (ix2 r c) = max 0 ((lifted (bits s r c) - 1) * (1 - 0) + 0) := by
  have hp := Cipher.threefry_at (F := Ideal) (word0 (Spec.keyOf s)) (word1 (Spec.keyOf s)) high low ix0 (ix2 r c)
  rw [word0_at, word1_at, high_at, low_at] at hp
  rw [uniform_eq]
  generalize fn_threefry2x32 (F := Ideal) (word0 (Spec.keyOf s)) (word1 (Spec.keyOf s)) high low = p at hp
  have h : fn_uniform_part1 (F := Ideal) (broadcastInDim S1x1 ![] bcast_S_S1x1 (constant S_ .f32 0x00000000#32))
      (broadcastInDim S1x1 ![] bcast_S_S1x1 (constant S_ .f32 0x3F800000#32)) p.1 p.2 (ix2 r c)
      = max (Ideal.ofBits .f32 0x00000000#32) ((Ideal.ofBits .f32 (Host.shrui (xori p.1 p.2)
          (broadcastInDim S4096x4096 ![] bcast_S_S4096x4096 (constantI S_ 32 9#32)) (ix2 r c) ||| 1065353216#32) - Ideal.ofBits .f32 0x3F800000#32)
        * (Ideal.ofBits .f32 0x3F800000#32 - Ideal.ofBits .f32 0x00000000#32) + Ideal.ofBits .f32 0x00000000#32) := rfl
  have hs : Host.shrui (xori p.1 p.2) (broadcastInDim S4096x4096 ![] bcast_S_S4096x4096 (constantI S_ 32 9#32)) (ix2 r c)
      = bits s r c >>> 9#32 := by
    have e : bits s r c = p.1 (ix2 r c) ^^^ p.2 (ix2 r c) := by
      rw [bits, ← hp]; rfl
    rw [e]
    exact shrui_host _ _
  rw [h, hs, Ideal.ofBits_zero_f32, Ideal.ofBits_one_f32]
  rfl

end Cert.Proof.Draws

end
-- ==== Proof.Rows.lean ====
module

public import Idealize.ShloMosaic.PureOps.Ideal
public import Mathlib.Data.EReal.Operations
public import Mathlib.Data.Finset.Lattice.Fold

@[expose] public section

noncomputable section

/-! One row of the problem over the extended reals: what the kernel picks by maxima and minima is what the reference
    picks at the first largest score. -/

namespace Cert.Proof.Rows

variable {n : ℕ}

/-- The largest entry of `d` among the places where `s` is `v`. -/
def maxWhere (s d : Fin n → EReal) (v : EReal) : EReal := Finset.univ.sup fun j => if s j = v then d j else ⊥

/-- The smallest entry of `d` among the places where `s` is `v`. -/
def minWhere (s d : Fin n → EReal) (v : EReal) : EReal := Finset.univ.inf fun j => if s j = v then d j else ⊤

/-- The places of the largest score hold one distance. -/
def Agree (s d : Fin n → EReal) : Prop := maxWhere s d (Finset.univ.sup s) = minWhere s d (Finset.univ.sup s)

/-- A largest entry is the supremum. -/
theorem sup_eq_of_le (s : Fin n → EReal) (p : Fin n) (hp : ∀ j, s j ≤ s p) : Finset.univ.sup s = s p :=
  le_antisymm (Finset.sup_le fun j _ => hp j) (Finset.le_sup (Finset.mem_univ p))

/-- Where the places of the largest score hold one distance, the largest distance there is the one at any of them. -/
theorem maxWhere_eq (s d : Fin n → EReal) (p : Fin n) (hp : ∀ j, s j ≤ s p) (h : Agree s d) :
    maxWhere s d (Finset.univ.sup s) = d p := by
  have e : s p = Finset.univ.sup s := (sup_eq_of_le s p hp).symm
  refine le_antisymm ?_ ?_
  · rw [h]
    refine (Finset.inf_le (Finset.mem_univ p)).trans ?_
    rw [if_pos e]
  · have : (if s p = Finset.univ.sup s then d p else ⊥) ≤ maxWhere s d (Finset.univ.sup s) :=
      Finset.le_sup (f := fun j => if s j = Finset.univ.sup s then d j else ⊥) (Finset.mem_univ p)
    rwa [if_pos e] at this

/-- The supremum of the opposites is the opposite of the infimum. -/
theorem sup_neg (s : Fin n → EReal) : (Finset.univ.sup fun j => -s j) = -(Finset.univ.inf s) := by
  refine le_antisymm (Finset.sup_le fun j _ => EReal.neg_le_neg_iff.mpr (Finset.inf_le (Finset.mem_univ j))) ?_
  rw [EReal.neg_le]
  refine Finset.le_inf fun j _ => ?_
  rw [EReal.neg_le]
  exact Finset.le_sup (f := fun j => -s j) (Finset.mem_univ j)

variable (d : Fin n → EReal) (m : Fin n → Prop) [DecidablePred m]

/-- The kernel's score of a positive: the distance less the noise. -/
def kerPos (a : Fin n → EReal) (j : Fin n) : EReal := if m j then d j - a j else ⊥

/-- The kernel's score of a negative, to be made small: the distance plus the noise. -/
def kerNeg (a : Fin n → EReal) (j : Fin n) : EReal := if m j then ⊤ else d j + a j

/-- The reference's score of a positive. -/
def refPos (a : Fin n → EReal) (j : Fin n) : EReal := -a j + (if m j then d j else ⊥)

/-- The reference's score of a negative. -/
def refNeg (a : Fin n → EReal) (j : Fin n) : EReal := -a j + -(if m j then ⊤ else d j)

/-- The distance the kernel takes for the positive. -/
def pickPos (a : Fin n → EReal) : EReal := maxWhere (kerPos d m a) d (Finset.univ.sup (kerPos d m a))

/-- The distance the kernel takes for the negative: the first one where there is no negative. -/
def pickNeg (a : Fin n → EReal) (d0 : EReal) : EReal :=
  if Finset.univ.inf (kerNeg d m a) = ⊤ then d0 else maxWhere (kerNeg d m a) d (Finset.univ.inf (kerNeg d m a))

/-- The two scores of a positive are one. -/
theorem kerPos_eq (a b : Fin n → EReal) (h : ∀ j, m j → a j = b j) : kerPos d m a = refPos d m b := by
  funext j
  by_cases hj : m j
  · rw [kerPos, refPos, if_pos hj, if_pos hj, h j hj, sub_eq_add_neg, add_comm]
  · rw [kerPos, refPos, if_neg hj, if_neg hj, EReal.add_bot]

/-- The reference's score of a negative is the opposite of the kernel's, the noise being finite. -/
theorem refNeg_eq (a b : Fin n → EReal) (hb : ∀ j, ∃ r : ℝ, b j = r) (h : ∀ j, ¬m j → a j = b j) :
    refNeg d m b = fun j => -kerNeg d m a j := by
  funext j
  obtain ⟨r, hr⟩ := hb j
  by_cases hj : m j
  · rw [kerNeg, refNeg, if_pos hj, if_pos hj, EReal.neg_top, EReal.add_bot]
  · rw [kerNeg, refNeg, if_neg hj, if_neg hj, h j hj, hr, EReal.neg_add (Or.inr (EReal.coe_ne_top r)) (Or.inr (EReal.coe_ne_bot r)),
      sub_eq_add_neg, add_comm]

/-- The positive's distance. -/
theorem pickPos_eq (a b : Fin n → EReal) (h : ∀ j, m j → a j = b j) (p : Fin n)
    (hp : ∀ j, refPos d m b j ≤ refPos d m b p) (ht : Agree (refPos d m b) d) : pickPos d m a = d p := by
  rw [pickPos, kerPos_eq d m a b h]
  exact maxWhere_eq _ _ p hp ht

/-- The negative's distance. -/
theorem pickNeg_eq (a b : Fin n → EReal) (hb : ∀ j, ∃ r : ℝ, b j = r) (h : ∀ j, ¬m j → a j = b j) (p z : Fin n)
    (hz : ∀ j, z ≤ j) (hp : ∀ j, refNeg d m b j ≤ refNeg d m b p) (hf : ∀ j, refNeg d m b j = refNeg d m b p → p ≤ j)
    (ht : Agree (refNeg d m b) d ∨ Finset.univ.sup (refNeg d m b) = ⊥) : pickNeg d m a (d z) = d p := by
  have hn := refNeg_eq d m a b hb h
  have hs : Finset.univ.sup (refNeg d m b) = -(Finset.univ.inf (kerNeg d m a)) := by rw [hn, sup_neg]
  by_cases ht0 : Finset.univ.inf (kerNeg d m a) = ⊤
  · have hbot : ∀ j, refNeg d m b j = ⊥ := fun j => by
      have : refNeg d m b j ≤ Finset.univ.sup (refNeg d m b) := Finset.le_sup (Finset.mem_univ j)
      rwa [hs, ht0, EReal.neg_top, le_bot_iff] at this
    have : p = z := le_antisymm (hf z (by rw [hbot, hbot])) (hz p)
    rw [pickNeg, if_pos ht0, this]
  · have hA : Agree (refNeg d m b) d := by
      rcases ht with ht | ht
      · exact ht
      · rw [hs] at ht
        exact absurd (EReal.neg_eq_bot_iff.mp ht) ht0
    rw [pickNeg, if_neg ht0, ← maxWhere_eq _ _ p hp hA, hs, hn]
    simp only [maxWhere, neg_inj]

end Cert.Proof.Rows

end
-- ==== Proof.Scores.lean ====
module

public import proofs.«01_k».proof.Proof.Draws
public import proofs.«01_k».proof.Proof.Rows

@[expose] public section

noncomputable section

/-! The reference's two score arrays at a place, over the extended reals. -/

namespace Cert.Proof.Scores

open Cert.ReferenceIdeal Cert.ReferenceIdeal.Gen Idealize.ShloMosaic Idealize.ShloMosaic.ValueIdx Cert.Proof.Noise

/-- Whether rows `r` and `c` carry one class. -/
def Same (pids : IVec S4096 32) (r c : Fin 4096) : Prop := pids (ix1 c) = pids (ix1 r)

/-- Whether two rows share a class is decided by comparing words. -/
instance (pids : IVec S4096 32) (r : Fin 4096) : DecidablePred (Same pids r) := fun c =>
  inferInstanceAs (Decidable (pids (ix1 c) = pids (ix1 r)))

/-- Row `r` of the distances. -/
def row (dist : FVec Ideal S4096x4096 .f32) (r : Fin 4096) : Fin 4096 → EReal := fun c => dist (ix2 r c)

/-- Row `r` of the noise of seed `s`. -/
def noise (s : BitVec 32) (r : Fin 4096) : Fin 4096 → EReal := fun c => nlog (Draws.bits s r c)

/-- The class mask at a place. -/
theorem same_at (pids : IVec S4096 32) (r c : Fin 4096) :
    Spec.same pids (ix2 r c) = if Same pids r c then 1#1 else 0#1 := by
  have h1 : broadcastInDim S4096x4096 ![0, 1] bcast_S1x4096_S4096x4096_0_1 (broadcastInDim S1x4096 ![1] bcast_S4096_S1x4096_1 pids) (ix2 r c)
      = pids (ix1 c) := by
    rw [broadcastInDim_apply _ _ _ _ (ix2 0 c) fun a => by fin_cases a <;> rfl,
      broadcastInDim_apply _ _ _ _ (ix1 c) fun a => by fin_cases a; rfl]
  have h2 : broadcastInDim S4096x4096 ![0, 1] bcast_S4096x1_S4096x4096_0_1 (broadcastInDim S4096x1 ![0] bcast_S4096_S4096x1_0 pids) (ix2 r c)
      = pids (ix1 r) := by
    rw [broadcastInDim_apply _ _ _ _ (ix2 r 0) fun a => by fin_cases a <;> rfl,
      broadcastInDim_apply _ _ _ _ (ix1 r) fun a => by fin_cases a; rfl]
  show IntOp.cmpi .eq _ _ = _
  rw [h1, h2]
  by_cases h : Same pids r c
  · rw [if_pos h, h]; simp [IntOp.cmpi]
  · rw [if_neg h]
    have : pids (ix1 c) ≠ pids (ix1 r) := h
    show BitVec.ofBool (pids (ix1 c) == pids (ix1 r)) = 0#1
    rw [beq_eq_false_iff_ne.mpr this]
    rfl

/-- The bits of minus infinity. -/
theorem bits_bot : Ideal.ofBits .f32 0xFF800000#32 = ⊥ := by simp [Ideal.ofBits, Ideal.ieee]

/-- The bits of plus infinity. -/
theorem bits_top : Ideal.ofBits .f32 0x7F800000#32 = ⊤ := by simp [Ideal.ofBits, Ideal.ieee]

/-- Dividing by one changes nothing. -/
theorem div_one (x : EReal) : Ideal.div x 1 = x := by
  simp [Ideal.div]

/-- Noise from draws, at a place. -/
theorem gumbel_val (u : FVec Ideal S4096x4096 .f32) (j : S4096x4096.Idx) : Spec.gumbel (F := Ideal) u j
    = -(Ideal.log (-(Ideal.log (max tiny (u j * Ideal.ofBits .f32 0x3F800000#32 + tiny))))) := rfl

/-- A positive's score from its parts, at a place. -/
theorem scorePos_val (d u : FVec Ideal S4096x4096 .f32) (j : S4096x4096.Idx) : Spec.scorePos (F := Ideal) d u j
    = Spec.gumbel (F := Ideal) u j + Ideal.div (d j) (Ideal.ofBits .f32 0x3F800000#32) := rfl

/-- A negative's score from its parts, at a place. -/
theorem scoreNeg_val (d u : FVec Ideal S4096x4096 .f32) (j : S4096x4096.Idx) : Spec.scoreNeg (F := Ideal) d u j
    = Spec.gumbel (F := Ideal) u j + -(Ideal.div (d j) (Ideal.ofBits .f32 0x3F800000#32)) := rfl

/-- The distances to the same class, at a place. -/
theorem distPos_val (d : FVec Ideal S4096x4096 .f32) (pids : IVec S4096 32) (j : S4096x4096.Idx) :
    Spec.distPos (F := Ideal) d pids j = Scalar.select (Spec.same pids j) (d j) (Ideal.ofBits .f32 0xFF800000#32) := rfl

/-- The distances to other classes, at a place. -/
theorem distNeg_val (d : FVec Ideal S4096x4096 .f32) (pids : IVec S4096 32) (j : S4096x4096.Idx) :
    Spec.distNeg (F := Ideal) d pids j = Scalar.select (Spec.same pids j) (Ideal.ofBits .f32 0x7F800000#32) (d j) := rfl

/-- The noise at a place. -/
theorem gumbel_at (s : BitVec 32) (r c : Fin 4096) :
    Spec.gumbel (F := Ideal) (Spec.uniform s) (ix2 r c) = -(noise s r c) := by
  rw [gumbel_val, Draws.uniform_at, Ideal.ofBits_one_f32, gumbel_eq, noise]

/-- A positive's score. -/
theorem scorePos_at (dist : FVec Ideal S4096x4096 .f32) (pids : IVec S4096 32) (r c : Fin 4096) :
    Spec.scorePos (F := Ideal) (Spec.distPos dist pids) (Spec.uniform 123#32) (ix2 r c)
      = Rows.refPos (row dist r) (Same pids r) (noise 123#32 r) c := by
  rw [scorePos_val, gumbel_at, distPos_val, Ideal.ofBits_one_f32, div_one, same_at, bits_bot, Rows.refPos]
  split_ifs
  · rw [select_one, row]
  · rw [select_zero]

/-- A negative's score. -/
theorem scoreNeg_at (dist : FVec Ideal S4096x4096 .f32) (pids : IVec S4096 32) (r c : Fin 4096) :
    Spec.scoreNeg (F := Ideal) (Spec.distNeg dist pids) (Spec.uniform 456#32) (ix2 r c)
      = Rows.refNeg (row dist r) (Same pids r) (noise 456#32 r) c := by
  rw [scoreNeg_val, gumbel_at, distNeg_val, Ideal.ofBits_one_f32, div_one, same_at, bits_top, Rows.refNeg]
  split_ifs
  · rw [select_one]
  · rw [select_zero, row]

end Cert.Proof.Scores

end
-- ==== Proof.Ties.lean ====
module

public import proofs.«01_k».proof.Proof.Scores

@[expose] public section

noncomputable section

/-! The precondition read row by row: the places of a row's largest score hold one distance. -/

namespace Cert.Proof.Ties

open Cert.Pre_ties_agree Cert.Pre_ties_agree.Gen Idealize.ShloMosaic Idealize.ShloMosaic.ValueIdx

variable {F : FTy → Type} [FloatOps F]

/-- Each row's largest element. -/
def rowMax (x : FVec F S4096x4096 .f32) : FVec F S4096 .f32 :=
  Host.reduce FloatOps.maximumf x (constant S_ .f32 0xFF800000#32) reducesTo_S4096x4096_S4096_d1 h_S_

/-- Each row's smallest element. -/
def rowMin (x : FVec F S4096x4096 .f32) : FVec F S4096 .f32 :=
  Host.reduce FloatOps.minimumf x (constant S_ .f32 0x7F800000#32) reducesTo_S4096x4096_S4096_d1 h_S_

/-- Where each row is largest. -/
def best (s : FVec F S4096x4096 .f32) : IVec S4096x4096 1 :=
  cmpf .oeq s (broadcastInDim S4096x4096 ![0, 1] bcast_S4096x1_S4096x4096_0_1
    (broadcastInDim S4096x1 ![0] bcast_S4096_S4096x1_0 (rowMax s)))

/-- Whether each row of `d` holds one number where that row of `s` is largest. -/
def agree (d s : FVec F S4096x4096 .f32) : IVec S4096 1 :=
  cmpf .oeq (rowMax (select (best s) d (Spec.fill 0xFF800000#32))) (rowMin (select (best s) d (Spec.fill 0x7F800000#32)))

/-- The precondition from the distances and the two score arrays. -/
def verdict (d sp sn : FVec F S4096x4096 .f32) : IVec S4096 1 :=
  andi (agree d sp) (ori (agree d sn)
    (cmpf .oeq (rowMax sn) (broadcastInDim S4096 ![] bcast_S_S4096 (constant S_ .f32 0xFF800000#32))))

/-- The precondition is that verdict on the reference's own scores. -/
theorem fn_eq (d : FVec F S4096x4096 .f32) (pids : IVec S4096 32) : fn (F := F) d pids
    = verdict d (Spec.scorePos (Spec.distPos d pids) (Spec.uniform 123#32)) (Spec.scoreNeg (Spec.distNeg d pids) (Spec.uniform 456#32)) := rfl

/-- The coordinates a row's reduction runs over. -/
theorem lift_at (h : S4096x4096.Reduces [1] S4096) (i c : Fin 4096) : h.lift (ix1 i) c = ix2 i c :=
  (eq_ix2 _).trans rfl

/-- A row's largest element as a supremum. -/
theorem rowMax_at (x : FVec Ideal S4096x4096 .f32) (i : Fin 4096) :
    rowMax (F := Ideal) x (ix1 i) = Finset.univ.sup fun c => x (ix2 i c) := by
  have hr : S4096x4096.Reduces [1] S4096 := by decide
  have h : rowMax (F := Ideal) x (ix1 i) = Finset.univ.fold max (Ideal.ofBits .f32 0xFF800000#32) (fun c : Fin 4096 => x (hr.lift (ix1 i) c)) :=
    Host.reduce_eq_fold_single _ _ _ _ hr _ _
  rw [h, Scores.bits_bot]
  simp only [lift_at]
  rfl

/-- A row's smallest element as an infimum. -/
theorem rowMin_at (x : FVec Ideal S4096x4096 .f32) (i : Fin 4096) :
    rowMin (F := Ideal) x (ix1 i) = Finset.univ.inf fun c => x (ix2 i c) := by
  have hr : S4096x4096.Reduces [1] S4096 := by decide
  have h : rowMin (F := Ideal) x (ix1 i) = Finset.univ.fold min (Ideal.ofBits .f32 0x7F800000#32) (fun c : Fin 4096 => x (hr.lift (ix1 i) c)) :=
    Host.reduce_eq_fold_single _ _ _ _ hr _ _
  rw [h, Scores.bits_top]
  simp only [lift_at]
  rfl

/-- Equality of two extended reals as a bit. -/
theorem oeq_iff (x y : EReal) : Ideal.cmp .oeq x y = 1#1 ↔ x = y := by
  by_cases h : x = y <;> simp [Ideal.cmp, h]

/-- A select on such a bit. -/
theorem select_oeq {α : Type} (x y : EReal) (a b : α) : Scalar.select (Ideal.cmp .oeq x y) a b = if x = y then a else b := by
  by_cases h : x = y
  · rw [if_pos h, (oeq_iff x y).mpr h, select_one]
  · rw [if_neg h, eq_zero_of_ne_one (fun g => h ((oeq_iff x y).mp g)), select_zero]

/-- A row's places of the largest score, chosen between. -/
theorem best_at (s d : FVec Ideal S4096x4096 .f32) (b : BitVec 32) (i c : Fin 4096) :
    select (best (F := Ideal) s) d (Spec.fill b) (ix2 i c)
      = if s (ix2 i c) = Finset.univ.sup (fun k => s (ix2 i k)) then d (ix2 i c) else Ideal.ofBits .f32 b := by
  have h : broadcastInDim S4096x4096 ![0, 1] bcast_S4096x1_S4096x4096_0_1
      (broadcastInDim S4096x1 ![0] bcast_S4096_S4096x1_0 (rowMax (F := Ideal) s)) (ix2 i c) = Finset.univ.sup (fun k => s (ix2 i k)) := by
    rw [broadcastInDim_apply _ _ _ _ (ix2 i 0) fun a => by fin_cases a <;> rfl,
      broadcastInDim_apply _ _ _ _ (ix1 i) fun a => by fin_cases a; rfl, rowMax_at]
  show Scalar.select (Ideal.cmp .oeq (s (ix2 i c)) _) (d (ix2 i c)) (Ideal.ofBits .f32 b) = _
  rw [h, select_oeq]

/-- A comparison for equality at an index. -/
theorem cmpf_at {s : Shape} (x y : FVec Ideal s .f32) (j : s.Idx) : cmpf (F := Ideal) .oeq x y j = Ideal.cmp .oeq (x j) (y j) := rfl

/-- The verdict's last steps at an index. -/
theorem bits_at (a b : IVec S4096 1) (x : FVec Ideal S4096 .f32) (j : S4096.Idx) :
    andi a (ori b (cmpf (F := Ideal) .oeq x (broadcastInDim S4096 ![] bcast_S_S4096 (constant S_ .f32 0xFF800000#32)))) j
      = a j &&& (b j ||| Ideal.cmp .oeq (x j) (Ideal.ofBits .f32 0xFF800000#32)) := rfl

/-- A row's agreement bit. -/
theorem agree_at (d s : FVec Ideal S4096x4096 .f32) (i : Fin 4096) (h : agree (F := Ideal) d s (ix1 i) = 1#1) :
    Rows.Agree (fun c => s (ix2 i c)) (fun c => d (ix2 i c)) := by
  rw [agree, cmpf_at, rowMax_at, rowMin_at] at h
  have h' := (oeq_iff _ _).mp h
  simp only [best_at, Scores.bits_bot, Scores.bits_top] at h'
  exact h'

/-- The precondition at a row. -/
theorem fn_at (d : FVec Ideal S4096x4096 .f32) (pids : IVec S4096 32) (i : Fin 4096)
    (h : fn (F := Ideal) d pids (ix1 i) = 1#1) :
    Rows.Agree (Rows.refPos (Scores.row d i) (Scores.Same pids i) (Scores.noise 123#32 i)) (Scores.row d i)
      ∧ (Rows.Agree (Rows.refNeg (Scores.row d i) (Scores.Same pids i) (Scores.noise 456#32 i)) (Scores.row d i)
        ∨ Finset.univ.sup (Rows.refNeg (Scores.row d i) (Scores.Same pids i) (Scores.noise 456#32 i)) = ⊥) := by
  have hp : (fun c => Spec.scorePos (F := Ideal) (Spec.distPos d pids) (Spec.uniform 123#32) (ix2 i c))
      = Rows.refPos (Scores.row d i) (Scores.Same pids i) (Scores.noise 123#32 i) := funext fun c => Scores.scorePos_at d pids i c
  have hn : (fun c => Spec.scoreNeg (F := Ideal) (Spec.distNeg d pids) (Spec.uniform 456#32) (ix2 i c))
      = Rows.refNeg (Scores.row d i) (Scores.Same pids i) (Scores.noise 456#32 i) := funext fun c => Scores.scoreNeg_at d pids i c
  rw [fn_eq] at h
  generalize Spec.scorePos (F := Ideal) (Spec.distPos d pids) (Spec.uniform 123#32) = sp at h hp
  generalize Spec.scoreNeg (F := Ideal) (Spec.distNeg d pids) (Spec.uniform 456#32) = sn at h hn
  rw [← hp, ← hn]
  rw [verdict, bits_at, rowMax_at, Scores.bits_bot] at h
  have split : ∀ a b c : BitVec 1, a &&& (b ||| c) = 1#1 → a = 1#1 ∧ (b = 1#1 ∨ c = 1#1) := by decide
  obtain ⟨h1, h2⟩ := split _ _ _ h
  exact ⟨agree_at d sp i h1, h2.imp (agree_at d sn i) (oeq_iff _ _).mp⟩

end Cert.Proof.Ties

end
-- ==== Proof.Block.lean ====
module

public import proofs.«01_k».proof.Proof.Gen.KernelIdeal.Frame
public import proofs.«01_k».proof.Proof.Rows
public import proofs.«01_k».proof.Proof.Noise
public import proofs.«01_k».proof.Proof.Cipher
public import Idealize.ShloMosaic.PureOps.Ideal.Laws
public import Idealize.ShloMosaic.Lib.ValueIdx
public import Idealize.ShloMosaic.Lib.Pipeline.Value
public import Idealize.ShloMosaic.Lib.IdealHost

@[expose] public section

noncomputable section

/-! What the kernel writes for one block of rows, over the extended reals, read at a row. -/

namespace Cert.Proof.Block

open Cert.KernelIdeal Cert.KernelIdeal.Gen Idealize.ShloMosaic Idealize.ShloMosaic.ValueIdx Cert.Proof.Noise

variable {F : FTy → Type} [FloatOps F]

/-- Each row's largest element, as a column. -/
def colMax (x : FVec F S256x4096 .f32) : FVec F S256x1 .f32 :=
  shapeCast S256x1 (multiReduction .maximumf [1] S256 x 0xFF800000#32 reduces_S256x4096_S256 (.inl rfl) rfl) shapeCasts_S256_S256x1

/-- Each row's smallest element, as a column. -/
def colMin (x : FVec F S256x4096 .f32) : FVec F S256x1 .f32 :=
  shapeCast S256x1 (multiReduction .minimumf [1] S256 x 0x7F800000#32 reduces_S256x4096_S256 (.inl rfl) rfl) shapeCasts_S256_S256x1

/-- The distances where the score is its row's number in `v`, minus infinity elsewhere. -/
def among (x : FVec F S256x4096 .f32) (v : FVec F S256x1 .f32) (d : FVec F S256x4096 .f32) : FVec F S256x4096 .f32 :=
  select (cmpf .oeq x (broadcastTo S256x4096 v broadcasts_S256x1_S256x4096)) d (broadcast S256x4096 (Scalar.ofBits .f32 0xFF800000#32))

/-- The logarithm of the exponential noise, from the random bits. -/
def logs (b : IVec S256x4096 32) (c : BitVec 32) : FVec F S256x4096 .f32 :=
  log (subf (broadcast S256x4096 (Scalar.ofBits .f32 0x00000000#32))
    (log (addf (subf (bitcastToFloat .f32 (ori b (broadcast S256x4096 c))) (broadcast S256x4096 (Scalar.ofBits .f32 0x3F800000#32)))
      (broadcast S256x4096 (Scalar.ofBits .f32 0x00800000#32)))))

/-- The positives' scores. -/
def pos (d : FVec F S256x4096 .f32) (m : IVec S256x4096 1) (l : FVec F S256x4096 .f32) : FVec F S256x4096 .f32 :=
  select m (subf d l) (broadcast S256x4096 (Scalar.ofBits .f32 0xFF800000#32))

/-- The negatives' scores. -/
def neg (d : FVec F S256x4096 .f32) (m : IVec S256x4096 1) (l : FVec F S256x4096 .f32) : FVec F S256x4096 .f32 :=
  select m (broadcast S256x4096 (Scalar.ofBits .f32 0x7F800000#32)) (addf d l)

/-- The positive's distance less the negative's, from the scores. -/
def gap (d p n : FVec F S256x4096 .f32) : FVec F S256x1 .f32 :=
  subf (colMax (among p (colMax p) d))
    (select (cmpf .oeq (colMin n) (broadcast S256x1 (Scalar.ofBits .f32 0x7F800000#32)))
      (extractStridedSlice S256x1 ![0, 0] d slices_S256x4096_o0_0_S256x1) (colMax (among n (colMin n) d)))

/-- The kernel's difference is that one on its own scores. -/
theorem pay38_eq (d : Vec F S256x4096 .f32) (m : IVec S256x4096 1) (b : IVec S256x4096 32) (c : BitVec 32) :
    k0_pay38 d m b c = gap d (pos d m (logs b c)) (neg d m (logs b c)) := rfl

/-- The coordinates a row's reduction runs over. -/
theorem lift_at (h : S256x4096.Reduces [1] S256) (q : Fin 256) (c : Fin 4096) : h.lift (ix1 q) c = ix2 q c :=
  (eq_ix2 _).trans rfl

/-- A column made of a vector of row numbers. -/
theorem column_at (x : FVec Ideal S256 .f32) (q : Fin 256) : shapeCast S256x1 x shapeCasts_S256_S256x1 (ix2 q 0) = x (ix1 q) :=
  shapeCast_apply _ _ _ _ (by rw [Shape.rowMajor_val_two, Shape.rowMajor_val_one]; show q.val = q.val * 1 + 0; omega)

/-- The bits of minus infinity. -/
theorem bits_bot : Ideal.ofBits .f32 0xFF800000#32 = ⊥ := by simp [Ideal.ofBits, Ideal.ieee]

/-- The bits of plus infinity. -/
theorem bits_top : Ideal.ofBits .f32 0x7F800000#32 = ⊤ := by simp [Ideal.ofBits, Ideal.ieee]

/-- A row's largest element as a supremum. -/
theorem colMax_at (x : FVec Ideal S256x4096 .f32) (q : Fin 256) :
    colMax (F := Ideal) x (ix2 q 0) = Finset.univ.sup fun c => x (ix2 q c) := by
  rw [colMax, column_at]
  refine (Ideal.multiReduction_maximumf_single x _ _ _ _ _).trans ?_
  have e : (x ∘ reduces_S256x4096_S256.lift (ix1 q) : Fin 4096 → EReal) = fun c => x (ix2 q c) :=
    funext fun c => congrArg x (lift_at _ q c)
  refine (congrArg (Finset.univ.fold max (Ideal.ofBits .f32 0xFF800000#32)) e).trans ?_
  rw [bits_bot]
  rfl

/-- A row's smallest element as an infimum. -/
theorem colMin_at (x : FVec Ideal S256x4096 .f32) (q : Fin 256) :
    colMin (F := Ideal) x (ix2 q 0) = Finset.univ.inf fun c => x (ix2 q c) := by
  rw [colMin, column_at]
  refine (multiReduction_minimumf_eq_fold x _ _ _ _ _).trans ?_
  refine (Shape.Reduces.fold_filter_drop_single _ _ _ _ _).trans ?_
  have e : (x ∘ reduces_S256x4096_S256.lift (ix1 q) : Fin 4096 → EReal) = fun c => x (ix2 q c) :=
    funext fun c => congrArg x (lift_at _ q c)
  refine (congrArg (Finset.univ.fold min (Ideal.ofBits .f32 0x7F800000#32)) e).trans ?_
  rw [bits_top]
  rfl

/-- A select on an equality of extended reals. -/
theorem select_oeq {α : Type} (x y : EReal) (a b : α) : Scalar.select (Ideal.cmp .oeq x y) a b = if x = y then a else b := by
  by_cases h : x = y
  · have : Ideal.cmp .oeq x y = 1#1 := by simp [Ideal.cmp, h]
    rw [if_pos h, this, select_one]
  · have : Ideal.cmp .oeq x y = 0#1 := by simp [Ideal.cmp, h]
    rw [if_neg h, this, select_zero]

/-- The distances among a row's places of one score. -/
theorem among_at (x : FVec Ideal S256x4096 .f32) (v : FVec Ideal S256x1 .f32) (d : FVec Ideal S256x4096 .f32) (q : Fin 256) (c : Fin 4096) :
    among (F := Ideal) x v d (ix2 q c) = if x (ix2 q c) = v (ix2 q 0) then d (ix2 q c) else ⊥ := by
  have h : broadcastTo S256x4096 v broadcasts_S256x1_S256x4096 (ix2 q c) = v (ix2 q 0) :=
    broadcastTo_apply _ _ _ _ fun a => by fin_cases a <;> rfl
  show Scalar.select (Ideal.cmp .oeq (x (ix2 q c)) _) (d (ix2 q c)) (Ideal.ofBits .f32 0xFF800000#32) = _
  rw [h, select_oeq, bits_bot]

/-- The largest distance among a row's places of one score. -/
theorem maxAmong_at (x : FVec Ideal S256x4096 .f32) (v : FVec Ideal S256x1 .f32) (d : FVec Ideal S256x4096 .f32) (q : Fin 256) :
    colMax (F := Ideal) (among (F := Ideal) x v d) (ix2 q 0)
      = Rows.maxWhere (fun c => x (ix2 q c)) (fun c => d (ix2 q c)) (v (ix2 q 0)) := by
  rw [colMax_at]
  simp only [among_at]
  rfl

/-- The difference's last steps at an index. -/
theorem parts_at (x y u v : FVec Ideal S256x1 .f32) (b : BitVec 32) (j : S256x1.Idx) :
    subf x (select (cmpf .oeq y (broadcast S256x1 (Scalar.ofBits (F := Ideal) .f32 b))) u v) j
      = x j - Scalar.select (Ideal.cmp .oeq (y j) (Ideal.ofBits .f32 b)) (u j) (v j) := rfl

/-- A row's difference from its scores. -/
theorem gap_at (d p n : FVec Ideal S256x4096 .f32) (q : Fin 256) : gap (F := Ideal) d p n (ix2 q 0)
    = Rows.maxWhere (fun c => p (ix2 q c)) (fun c => d (ix2 q c)) (Finset.univ.sup fun c => p (ix2 q c))
      - (if (Finset.univ.inf fun c => n (ix2 q c)) = ⊤ then d (ix2 q 0)
        else Rows.maxWhere (fun c => n (ix2 q c)) (fun c => d (ix2 q c)) (Finset.univ.inf fun c => n (ix2 q c))) := by
  have h : extractStridedSlice S256x1 ![0, 0] d slices_S256x4096_o0_0_S256x1 (ix2 q 0) = d (ix2 q 0) :=
    extractStridedSlice_apply _ _ _ _ _ fun a => by fin_cases a <;> simp
  rw [gap, parts_at]
  rw [h, select_oeq, maxAmong_at, maxAmong_at, colMax_at, colMin_at, bits_top]

/-- The noise at a place, from a random word shifted into place. -/
theorem logs_at (b : IVec S256x4096 32) (w : BitVec 32) (j : S256x4096.Idx) (hb : b j = w >>> 9#32) :
    logs (F := Ideal) b 1065353216#32 j = nlog w := by
  show Ideal.log (Ideal.ofBits .f32 0x00000000#32 - Ideal.log (Ideal.ofBits .f32 (b j ||| 1065353216#32) - Ideal.ofBits .f32 0x3F800000#32 + tiny)) = _
  rw [Ideal.ofBits_zero_f32, Ideal.ofBits_one_f32, zero_sub, hb]
  rfl

/-- A row's difference from its distances, its mask and its noise. -/
theorem pay38_at (d : Vec Ideal S256x4096 .f32) (b : IVec S256x4096 32) (M : IVec S256x4096 1) (q : Fin 256)
    (m : Fin 4096 → Prop) [DecidablePred m] (hm : ∀ c, M (ix2 q c) = if m c then 1#1 else 0#1)
    (w : Fin 4096 → BitVec 32) (hb : ∀ c, b (ix2 q c) = w c >>> 9#32) :
    k0_pay38 (F := Ideal) d M b 1065353216#32 (ix2 q 0)
      = Rows.pickPos (fun c => d (ix2 q c)) m (fun c => nlog (w c))
        - Rows.pickNeg (fun c => d (ix2 q c)) m (fun c => nlog (w c)) (d (ix2 q 0)) := by
  have hp : (fun c => pos (F := Ideal) d M (logs b 1065353216#32) (ix2 q c)) = Rows.kerPos (fun c => d (ix2 q c)) m (fun c => nlog (w c)) := by
    funext c
    show Scalar.select (M (ix2 q c)) (d (ix2 q c) - logs (F := Ideal) b 1065353216#32 (ix2 q c)) (Ideal.ofBits .f32 0xFF800000#32) = _
    rw [logs_at b (w c) _ (hb c), hm, bits_bot, Rows.kerPos]
    split_ifs
    · rw [select_one]
    · rw [select_zero]
  have hn : (fun c => neg (F := Ideal) d M (logs b 1065353216#32) (ix2 q c)) = Rows.kerNeg (fun c => d (ix2 q c)) m (fun c => nlog (w c)) := by
    funext c
    show Scalar.select (M (ix2 q c)) (Ideal.ofBits .f32 0x7F800000#32) (d (ix2 q c) + logs (F := Ideal) b 1065353216#32 (ix2 q c)) = _
    rw [logs_at b (w c) _ (hb c), hm, bits_top, Rows.kerNeg]
    split_ifs
    · rw [select_one]
    · rw [select_zero]
  rw [pay38_eq, gap_at, hp, hn]
  rfl

/-- The softplus of a number. -/
def soft (x : EReal) : EReal := max x 0 + Ideal.log1p (Ideal.exp (-(max x (-x))))

/-- What the kernel stores, from the difference. -/
theorem soft_at (d : Vec Ideal S256x4096 .f32) (M : IVec S256x4096 1) (b : IVec S256x4096 32) (c : BitVec 32) (j : S256x1.Idx) :
    k0_pay1 (F := Ideal) (k0_pay39 d M b c) (k0_pay41 d M b c) (k0_pay42 d M b c) (k0_pay43 d M b c) (Scalar.ofBits .f32 0x00000000#32) j
      = soft (k0_pay38 (F := Ideal) d M b c j) := by
  unfold k0_pay1 k0_pay39 k0_pay41 k0_pay42 k0_pay43 k0_pay40
  generalize k0_pay38 (F := Ideal) d M b c = g
  show Scalar.select (Ideal.cmp .one (g j - Ideal.ofBits .f32 0x00000000#32) (g j - Ideal.ofBits .f32 0x00000000#32)) (g j + Ideal.ofBits .f32 0x00000000#32)
    (max (g j) (Ideal.ofBits .f32 0x00000000#32) + Ideal.log1p (Ideal.exp (Ideal.ofBits .f32 0x00000000#32
      - max (g j - Ideal.ofBits .f32 0x00000000#32) (-(g j - Ideal.ofBits .f32 0x00000000#32))))) = _
  have h : ∀ x : EReal, Ideal.cmp .one x x = 0#1 := fun x => by simp [Ideal.cmp]
  rw [h, select_zero, Ideal.ofBits_zero_f32, zero_sub, sub_zero, soft]

end Cert.Proof.Block

end
-- ==== Proof.RefValue.lean ====
module

public import proofs.«01_k».proof.Proof.Take
public import proofs.«01_k».proof.Proof.Ties
public import proofs.«01_k».proof.Proof.Block

@[expose] public section

noncomputable section

/-! The reference's result row by row, in the terms the kernel computes it in. -/

namespace Cert.Proof.RefValue

open Idealize.ShloMosaic Idealize.ShloMosaic.ValueIdx Cert.Proof.Noise Cert.Proof.Scores
open Cert.ReferenceIdeal (S4096x4096 S4096)

/-- The noise a row draws: one stream where the classes agree, the other elsewhere. -/
def draw (pids : IVec S4096 32) (r : Fin 4096) : Fin 4096 → EReal := fun c =>
  nlog (Draws.bits (if Same pids r c then 123#32 else 456#32) r c)

/-- The loss of a row. -/
def lossAt (dist : FVec Ideal S4096x4096 .f32) (pids : IVec S4096 32) (r : Fin 4096) : EReal :=
  Block.soft (Rows.pickPos (row dist r) (Same pids r) (draw pids r)
    - Rows.pickNeg (row dist r) (Same pids r) (draw pids r) (row dist r 0))

/-- The zeros are zero. -/
theorem zeros_at (j : S4096.Idx) : Spec.zeros (F := Ideal) j = (0 : EReal) := by
  rw [← Ideal.ofBits_zero_f32]; rfl

/-- No number differs from itself. -/
theorem une_self (x : EReal) : Ideal.cmp .une x x = 0#1 := by simp [Ideal.cmp]

/-- The reference's softplus at an index, operation by operation. -/
theorem softplus_val (x : FVec Ideal S4096 .f32) (j : S4096.Idx) (z : EReal) (hz : Spec.zeros (F := Ideal) j = z) :
    Spec.softplus (F := Ideal) x j = Scalar.select (Ideal.cmp .une ((x j : EReal) - z) ((x j : EReal) - z)) ((x j : EReal) + z)
      (max (x j : EReal) z + Ideal.log1p (Ideal.exp (-(max ((x j : EReal) - z) (-((x j : EReal) - z)))))) := by
  subst hz
  rfl

/-- The reference's softplus at an index. -/
theorem softplus_at (x : FVec Ideal S4096 .f32) (j : S4096.Idx) : Spec.softplus (F := Ideal) x j = Block.soft (x j) := by
  rw [softplus_val x j 0 (zeros_at j), une_self, select_zero, sub_zero, Block.soft]

/-- The loss at an index: the softplus of the difference of the two elements picked. -/
theorem loss_val (d sp sn : FVec Ideal S4096x4096 .f32) (j : S4096.Idx) : Spec.loss (F := Ideal) d sp sn j
    = Spec.softplus (F := Ideal) (subf (Spec.pick d sp) (Spec.pick d sn)) j := rfl

/-- A difference of arrays at an index. -/
theorem subf_val (x y : FVec Ideal S4096 .f32) (j : S4096.Idx) : subf x y j = ((x j : EReal) - (y j : EReal)) := rfl

/-- The loss at a row where the largest scores are known to lie. -/
theorem loss_at (d sp sn : FVec Ideal S4096x4096 .f32) (i p q : Fin 4096)
    (hp : Spec.argmax (F := Ideal) sp (ix1 i) = BitVec.ofNat 32 p.val) (hq : Spec.argmax (F := Ideal) sn (ix1 i) = BitVec.ofNat 32 q.val) :
    Spec.loss (F := Ideal) d sp sn (ix1 i) = Block.soft (row d i p - row d i q) := by
  rw [loss_val, softplus_at, subf_val, Take.pick_at d sp i p hp, Take.pick_at d sn i q hq, row, row]

/-- The reference's result in its parts. -/
theorem out_val (d : FVec Ideal S4096x4096 .f32) (pids : IVec S4096 32) : Spec.out (F := Ideal) d pids
    = Spec.loss (F := Ideal) d (Spec.scorePos (Spec.distPos d pids) (Spec.uniform 123#32))
        (Spec.scoreNeg (Spec.distNeg d pids) (Spec.uniform 456#32)) := rfl

/-- The reference's result at a row whose ties agree. -/
theorem out_at (d : FVec Ideal S4096x4096 .f32) (pids : IVec S4096 32) (i : Fin 4096)
    (h : Cert.Pre_ties_agree.fn (F := Ideal) d pids (ix1 i) = 1#1) : Spec.out (F := Ideal) d pids (ix1 i) = lossAt d pids i := by
  obtain ⟨tp, tn⟩ := Ties.fn_at d pids i h
  have hsp := scorePos_at d pids i
  have hsn := scoreNeg_at d pids i
  rw [out_val]
  generalize Spec.scorePos (F := Ideal) (Spec.distPos d pids) (Spec.uniform 123#32) = sp at hsp ⊢
  generalize Spec.scoreNeg (F := Ideal) (Spec.distNeg d pids) (Spec.uniform 456#32) = sn at hsn ⊢
  obtain ⟨p, ep, mp, -⟩ := Argmax.argmax_spec sp i
  obtain ⟨q, eq, mq, fq⟩ := Argmax.argmax_spec sn i
  rw [loss_at d sp sn i p q ep eq, lossAt]
  simp only [hsp] at mp
  simp only [hsn] at mq fq
  rw [Rows.pickPos_eq (row d i) (Same pids i) (draw pids i) (noise 123#32 i) (fun j hj => by rw [draw, noise, if_pos hj]) p mp tp,
    Rows.pickNeg_eq (row d i) (Same pids i) (draw pids i) (noise 456#32 i) (fun j => nlog_real _)
      (fun j hj => by rw [draw, noise, if_neg hj]) q 0 (fun j => Fin.zero_le j) mq fq tn]

end Cert.Proof.RefValue

end
-- ==== Proof.BlockRow.lean ====
module

public import proofs.«01_k».proof.Proof.Block
public import proofs.«01_k».proof.Proof.Draws

@[expose] public section

noncomputable section

/-! What the kernel writes for a row, from the blocks it reads. -/

namespace Cert.Proof.Block

open Cert.KernelIdeal Cert.KernelIdeal.Gen Idealize.ShloMosaic Idealize.ShloMosaic.ValueIdx Cert.Proof.Noise

/-- The offsets of a whole block are zero. -/
theorem off_zero : (![0, 0] : Fin 2 → Nat) = fun _ => 0 := by
  funext a
  fin_cases a <;> rfl

/-- The class mask of a block at a place. -/
theorem mask_at (v1 : Vec Ideal S256x1 .i32) (v3 : Vec Ideal S1x4096 .i32) (q : Fin 256) (c : Fin 4096)
    (m : Prop) [Decidable m] (hm : m ↔ v3 (ix2 0 c) = v1 (ix2 q 0)) :
    k0_pay2 (F := Ideal) v1 v3 (ix2 q c) = if m then 1#1 else 0#1 := by
  have h1 : broadcastTo S256x4096 (shapeCast S256x1 v1 shapeCasts_S256x1_S256x1) broadcasts_S256x1_S256x4096 (ix2 q c) = v1 (ix2 q 0) :=
    (broadcastTo_apply _ _ _ (ix2 q 0) fun a => by fin_cases a <;> rfl).trans (shapeCast_apply _ _ _ _ rfl)
  have h2 : broadcastTo S256x4096 (shapeCast S1x4096 v3 shapeCasts_S1x4096_S1x4096) broadcasts_S1x4096_S256x4096 (ix2 q c) = v3 (ix2 0 c) :=
    (broadcastTo_apply _ _ _ (ix2 0 c) fun a => by fin_cases a <;> rfl).trans (shapeCast_apply _ _ _ _ rfl)
  show IntOp.cmpi .eq _ _ = _
  rw [h1, h2]
  show BitVec.ofBool (v1 (ix2 q 0) == v3 (ix2 0 c)) = _
  by_cases h : m
  · rw [if_pos h, hm.mp h, beq_self_eq_true]; rfl
  · rw [if_neg h, beq_eq_false_iff_ne.mpr fun g => h (hm.mpr g.symm)]; rfl

/-- The number a block's place carries, in the kernel's arithmetic. -/
theorem number_eq (i : grid0.Coords) (q : Fin 256) (c r : Fin 4096) (hr : r.val = (i 0).val * 256 + q.val) :
    (BitVec.ofNat 32 q.val + BitVec.ofNat 32 (i 0).val * 256#32) * 4096#32 + BitVec.ofNat 32 c.val = Draws.number r c := by
  have h0 : (i 0).val < 16 := (i 0).isLt
  have hc := c.isLt
  have hq := q.isLt
  rw [Draws.number]
  apply BitVec.eq_of_toNat_eq
  simp only [BitVec.toNat_add, BitVec.toNat_mul, BitVec.toNat_ofNat]
  omega

/-- The block's shifted random word at a place. -/
theorem word_at (i : grid0.Coords) (x0 : Vec Ideal S256x1 .i32) (x1 : Vec Ideal S1x4096 .i32) (x2 : Vec Ideal S256x4096 .f32)
    (q : Fin 256) (c r : Fin 4096) (hr : r.val = (i 0).val * 256 + q.val)
    (m : Prop) [Decidable m] (hm : m ↔ View.ld x1 r0_2 (ix2 0 c) = View.ld x0 r0_1 (ix2 q 0)) :
    k0_pay53 (F := Ideal) i x0 x1 x2 (ix2 q c) = Draws.bits (if m then 123#32 else 456#32) r c >>> 9#32 := by
  rw [Cipher.pay53_eq]
  generalize View.ld x0 r0_1 = v1 at hm ⊢
  generalize View.ld x1 r0_2 = v3 at hm ⊢
  have hk : k0_pay3 (F := Ideal) v1 v3 (ix2 q c) = if m then 123#32 else 456#32 := by
    show Scalar.select (k0_pay2 (F := Ideal) v1 v3 (ix2 q c)) 123#32 456#32 = _
    rw [mask_at v1 v3 q c m hm]
    split_ifs
    · rw [select_one]
    · rw [select_zero]
  have h2 : k0_pay4 (F := Ideal) v1 v3 (ix2 q c) = k0_pay3 (F := Ideal) v1 v3 (ix2 q c) ^^^ 466688986#32 := rfl
  have hx : k0_pay5 (F := Ideal) i v1 v3 (ix2 q c) = Draws.number r c + k0_pay3 (F := Ideal) v1 v3 (ix2 q c) := by
    rw [← number_eq i q c r hr]
    have a0 : iota .tc S256x4096 32 [0] iota_S256x4096_d0_w32 (ix2 q c) = BitVec.ofNat 32 q.val :=
      congrArg (BitVec.ofNat 32) (by show 0 * 256 + q.val = q.val; omega)
    have a1 : iota .tc S256x4096 32 [1] iota_S256x4096_d1_w32 (ix2 q c) = BitVec.ofNat 32 c.val :=
      congrArg (BitVec.ofNat 32) (by show 0 * 4096 + c.val = c.val; omega)
    rw [← a0, ← a1]
    rfl
  have hw := Cipher.wordsK_at _ _ _ _ _ h2 hx
  rw [hk] at hw
  generalize Cipher.wordsK _ _ _ = p at hw
  have e : Draws.bits (if m then 123#32 else 456#32) r c = p.1 (ix2 q c) ^^^ p.2 (ix2 q c) := by
    rw [Draws.bits, ← hw]; rfl
  rw [e]
  exact Cipher.shrui_lt .vector _ 9#32 (by decide)

/-- A row of what the kernel writes for a block. -/
theorem out_at (i : grid0.Coords) (x0 : Vec Ideal S256x1 .i32) (x1 : Vec Ideal S1x4096 .i32) (x2 : Vec Ideal S256x4096 .f32)
    (q : Fin 256) (r : Fin 4096) (hr : r.val = (i 0).val * 256 + q.val)
    (m : Fin 4096 → Prop) [DecidablePred m] (hm : ∀ c, m c ↔ x1 (ix2 0 c) = x0 (ix2 q 0)) :
    out0_3 (F := Ideal) i x0 x1 x2 (ix2 q 0) = soft
      (Rows.pickPos (fun c => x2 (ix2 q c)) m (fun c => nlog (Draws.bits (if m c then 123#32 else 456#32) r c))
        - Rows.pickNeg (fun c => x2 (ix2 q c)) m (fun c => nlog (Draws.bits (if m c then 123#32 else 456#32) r c)) (x2 (ix2 q 0))) := by
  have e0 : View.ld x0 r0_1 = x0 := View.ld_unit_zero off_zero _ x0
  have e1 : View.ld x1 r0_2 = x1 := View.ld_unit_zero off_zero _ x1
  have e2 : View.ld x2 r0_0 = x2 := View.ld_unit_zero off_zero _ x2
  have hM : ∀ c, k0_pay44 (F := Ideal) i x0 x1 x2 (ix2 q c) = if m c then 1#1 else 0#1 := fun c => by
    have : k0_pay44 (F := Ideal) i x0 x1 x2 = k0_pay2 (View.ld x0 r0_1) (View.ld x1 r0_2) := rfl
    rw [this, e0, e1]
    exact mask_at x0 x1 q c (m c) (hm c)
  rw [out0_3, View.canon_unit_zero off_zero, soft_at, e2]
  rw [pay38_at x2 _ _ q m hM _ fun c => word_at i x0 x1 x2 q c r hr (m c) (by rw [e0, e1]; exact hm c)]

end Cert.Proof.Block

end
-- ==== Proof.KernelValue.lean ====
module

public import proofs.«01_k».proof.Proof.RefValue
public import proofs.«01_k».proof.Proof.BlockRow
public import proofs.«01_k».proof.Proof.Gen.KernelIdeal.Run

@[expose] public section

noncomputable section

/-! The kernel's result array: the sixteen points write its blocks, each row the loss of that row. -/

namespace Cert.Proof.KernelValue

open Cert.KernelIdeal Cert.KernelIdeal.Gen Idealize.ShloMosaic Idealize.ShloMosaic.TcCoe Idealize.ShloMosaic.ValueIdx
open Idealize.SL.Sem Cert.Proof.Noise Cert.Proof.Scores Cert.Proof.RefValue

variable (m : (ℓ : Loc nD τ sig) → Buf (Elt Ideal) ℓ)

/-- The distances core `c` is given. -/
abbrev dist (c : Dev nD) : FVec Ideal S4096x4096 .f32 := m ((c : Thread nD τ).loc main_arg0)

/-- The classes core `c` is given. -/
abbrev pids (c : Dev nD) : IVec S4096 32 := m ((c : Thread nD τ).loc main_arg1)

/-- What the result array is shown to hold: each row's loss. -/
abbrev W (c : Dev nD) : Buf (Elt Ideal) ((c : Thread nD τ).loc main_v2) := fun j : S4096x1.Idx =>
  lossAt (dist m c) (pids m c) (j 0)

/-- The classes as a column, when the region is entered. -/
theorem V_main_v0 (c : Dev nD) : V m c main_v0 = shapeCast S4096x1 (pids m c) shapeCasts_S4096_S4096x1 := by
  show StableHlo.after (List.flatten [hostOps0]) (fun b => m (c, b)) (Proc.devRef .tc main_v0) = _
  simp only [hostOps0, List.flatten_cons, List.flatten_nil, List.append_nil, List.cons_append, List.nil_append]
  after_results <;> rfl

/-- The classes as a row, when the region is entered. -/
theorem V_main_v1 (c : Dev nD) : V m c main_v1 = shapeCast S1x4096 (pids m c) shapeCasts_S4096_S1x4096 := by
  show StableHlo.after (List.flatten [hostOps0]) (fun b => m (c, b)) (Proc.devRef .tc main_v1) = _
  simp only [hostOps0, List.flatten_cons, List.flatten_nil, List.append_nil, List.cons_append, List.nil_append]
  after_results <;> rfl

/-- A column's element. -/
theorem column_at (p : IVec S4096 32) (r : Fin 4096) : shapeCast S4096x1 p shapeCasts_S4096_S4096x1 (ix2 r 0) = p (ix1 r) :=
  shapeCast_apply _ _ _ _ (by
    rw [Shape.rowMajor_val_one, Shape.rowMajor_val_two]
    show r.val = r.val * 1 + 0
    omega)

/-- A row's element. -/
theorem line_at (p : IVec S4096 32) (k : Fin 4096) : shapeCast S1x4096 p shapeCasts_S4096_S1x4096 (ix2 0 k) = p (ix1 k) :=
  shapeCast_apply _ _ _ _ (by
    rw [Shape.rowMajor_val_one, Shape.rowMajor_val_two]
    show k.val = 0 * 4096 + k.val
    omega)

/-- Where each point's blocks start. -/
theorem starts (t : Fin cfg0.N) : (grid0.coords t 0).val = t.val
    ∧ win0_0.index t 0 * win0_0.size 0 = t.val * 256 ∧ win0_0.index t 1 * win0_0.size 1 = 0
    ∧ win0_1.index t 0 * win0_1.size 0 = 0 ∧ win0_1.index t 1 * win0_1.size 1 = 0
    ∧ win0_2.index t 0 * win0_2.size 0 = t.val * 256 ∧ win0_2.index t 1 * win0_2.size 1 = 0 := by
  rcases fin_N0 t with rfl | rfl | rfl | rfl | rfl | rfl | rfl | rfl | rfl | rfl | rfl | rfl | rfl | rfl | rfl | rfl <;> decide +kernel

/-- Where each point's result block starts, and its size. -/
theorem ends (t : Fin cfg0.N) : win0_3.index t 0 * win0_3.size 0 = t.val * 256 ∧ win0_3.xsize (grid0.coords t) 0 = 256
    ∧ win0_3.index t 1 * win0_3.size 1 = 0 ∧ win0_3.xsize (grid0.coords t) 1 = 1 := by
  rcases fin_N0 t with rfl | rfl | rfl | rfl | rfl | rfl | rfl | rfl | rfl | rfl | rfl | rfl | rfl | rfl | rfl | rfl <;> decide +kernel

/-- The block of the classes' column at a point. -/
theorem iblk0_at (c : Dev nD) (t : Fin cfg0.N) (q : Fin 256) (r : Fin 4096) (hr : r.val = t.val * 256 + q.val) :
    iblk m c 0 t (ix2 q 0) = pids m c (ix1 r) := by
  obtain ⟨-, e0, e1, -⟩ := starts t
  have h : ((View.whole main_v0).slice (win0_0.rect t)).emb (ix2 q 0) = (ix2 r 0 : S4096x1.Idx) := by
    funext a
    refine Fin.ext ?_
    match a with
    | ⟨0, _⟩ => show win0_0.index t 0 * win0_0.size 0 + 1 * q.val = r.val
                omega
    | ⟨1, _⟩ => show win0_0.index t 1 * win0_0.size 1 + 1 * 0 = 0
                omega
  rw [← column_at (pids m c) r, ← V_main_v0 m c, ← h]
  rfl

/-- The block of the classes' row at a point. -/
theorem iblk1_at (c : Dev nD) (t : Fin cfg0.N) (k : Fin 4096) : iblk m c 1 t (ix2 0 k) = pids m c (ix1 k) := by
  obtain ⟨-, -, -, e0, e1, -⟩ := starts t
  have h : ((View.whole main_v1).slice (win0_1.rect t)).emb (ix2 0 k) = (ix2 0 k : S1x4096.Idx) := by
    funext a
    refine Fin.ext ?_
    match a with
    | ⟨0, _⟩ => show win0_1.index t 0 * win0_1.size 0 + 1 * 0 = 0
                omega
    | ⟨1, _⟩ => show win0_1.index t 1 * win0_1.size 1 + 1 * k.val = k.val
                omega
  rw [← line_at (pids m c) k, ← V_main_v1 m c]
  conv_rhs => rw [← h]
  rfl

/-- The block of the distances at a point. -/
theorem iblk2_at (c : Dev nD) (t : Fin cfg0.N) (q : Fin 256) (k r : Fin 4096) (hr : r.val = t.val * 256 + q.val) :
    iblk m c 2 t (ix2 q k) = dist m c (ix2 r k) := by
  obtain ⟨-, -, -, -, -, e0, e1⟩ := starts t
  have h : ((View.whole main_arg0).slice (win0_2.rect t)).emb (ix2 q k) = (ix2 r k : S4096x4096.Idx) := by
    funext a
    refine Fin.ext ?_
    match a with
    | ⟨0, _⟩ => show win0_2.index t 0 * win0_2.size 0 + 1 * q.val = r.val
                omega
    | ⟨1, _⟩ => show win0_2.index t 1 * win0_2.size 1 + 1 * k.val = k.val
                omega
  rw [dist, ← V_main_arg0 m c, ← h]
  rfl

/-- A row of the block a point leaves, from blocks that are known. -/
theorem row_at (d : FVec Ideal S4096x4096 .f32) (p : IVec S4096 32) (i : grid0.Coords) (x0 : Vec Ideal S256x1 .i32)
    (x1 : Vec Ideal S1x4096 .i32) (x2 : Vec Ideal S256x4096 .f32) (q : Fin 256) (r : Fin 4096)
    (hr : r.val = (i 0).val * 256 + q.val) (h0 : x0 (ix2 q 0) = p (ix1 r)) (h1 : ∀ k, x1 (ix2 0 k) = p (ix1 k))
    (h2 : ∀ k, x2 (ix2 q k) = d (ix2 r k)) : out0_3 (F := Ideal) i x0 x1 x2 (ix2 q 0) = lossAt d p r := by
  have e : (fun k => x2 (ix2 q k)) = row d r := funext h2
  rw [Block.out_at i x0 x1 x2 q r hr (Same p r) (fun k => by rw [h0, h1]; exact Iff.rfl), h2 0, e]
  rfl

/-- A row of the block a point leaves. -/
theorem after_at (c : Dev nD) (t : Fin cfg0.N) (q : Fin 256) (r : Fin 4096) (hr : r.val = t.val * 256 + q.val) :
    out0_3 (F := Ideal) (grid0.coords t) (iblk m c 0 t) (iblk m c 1 t) (iblk m c 2 t) (ix2 q 0) = lossAt (dist m c) (pids m c) r :=
  row_at (dist m c) (pids m c) (grid0.coords t) _ _ _ q r (by rw [(starts t).1]; exact hr) (iblk0_at m c t q r hr)
    (iblk1_at m c t) (fun k => iblk2_at m c t q k r hr)

/-- An index of a column block is its row. -/
theorem col_eq (j : S256x1.Idx) : j = ix2 (j 0) 0 := by
  have h : ∀ k : Fin 1, k = 0 := fun k => Subsingleton.elim _ _
  conv_lhs => rw [eq_ix2 j]
  exact congrArg (ix2 (j 0)) (h (j 1))

/-- A column block whose rows are known is the array's block. -/
theorem block_eq (t : Fin cfg0.N) (x : Vec Ideal S256x1 .f32) (L : Fin 4096 → EReal)
    (hx : ∀ (q : Fin 256) (r : Fin 4096), r.val = t.val * 256 + q.val → x (ix2 q 0) = L r) (j : S256x1.Idx)
    (i : S4096x1.Idx) (hi : (i 0).val = t.val * 256 + (j 0).val) : x j = L (i 0) := by
  conv_lhs => rw [col_eq j]
  exact hx (j 0) (i 0) hi

/-- What a window keeps of a whole block is the block. -/
theorem cut_eq (t : Fin cfg0.N) (x : Vec Ideal S256x1 .f32) : (cfg0.win 3).cut (grid0.coords t) x = x := rfl

/-- The array's block read at an index. -/
theorem read_at (t : Fin cfg0.N) (w : S4096x1.Idx → EReal) (j : S256x1.Idx) :
    (win0_3.blk t).view.read (Elt Ideal) w j = w (((View.whole main_v2).slice (win0_3.rect t)).emb j) := rfl

/-- Where the array's block puts an index's row. -/
theorem emb_at (t : Fin cfg0.N) (j : S256x1.Idx) :
    (((View.whole main_v2).slice (win0_3.rect t)).emb j 0).val = t.val * 256 + (j 0).val := by
  obtain ⟨e0, -, -, -⟩ := ends t
  show win0_3.index t 0 * win0_3.size 0 + 1 * (j 0).val = _
  omega

/-- What a point writes back is its block of the losses. -/
theorem flushed_eq (c : Dev nD) (t : Fin cfg0.N) : (dats m 0 c).flushed 3 t = (win0_3.blk t).view.read (Elt Ideal) (W m c) := by
  show (cfg0.win 3).cut (grid0.coords t) ((dats m 0 c).after 3 t) = _
  rw [after0_3]
  have h := after_at m c t
  generalize out0_3 (F := Ideal) (grid0.coords t) (iblk m c 0 t) (iblk m c 1 t) (iblk m c 2 t) = x at h ⊢
  have hW : W m c = fun j : S4096x1.Idx => lossAt (dist m c) (pids m c) (j 0) := rfl
  rw [hW]
  generalize lossAt (dist m c) (pids m c) = L at h ⊢
  funext j
  exact (congrFun (cut_eq t x) j).trans ((block_eq t x L h j _ (emb_at t j)).trans (read_at t (fun j => L (j 0)) j).symm)

/-- The rows a point's result block holds. -/
theorem mem_blk (t : Fin cfg0.N) (i : S4096x1.Idx) :
    i ∈ ((cfg0.win 3).blk t).view.set ↔ t.val * 256 ≤ (i 0 : Nat) ∧ (i 0 : Nat) < t.val * 256 + 256 := by
  show i ∈ ((View.whole main_v2).slice (win0_3.rect t)).set ↔ _
  rw [View.set_slice_whole, Rect.mem_set_unit]
  have h1 : (i 1 : Nat) < 1 := (i 1).isLt
  obtain ⟨a0, b0, a1, b1⟩ := ends t
  refine ⟨fun h => ?_, fun h a => ?_⟩
  · have g : win0_3.index t 0 * win0_3.size 0 ≤ (i 0 : Nat) ∧ (i 0 : Nat) < win0_3.index t 0 * win0_3.size 0 + win0_3.xsize (grid0.coords t) 0 := h 0
    omega
  · match a with
    | ⟨0, _⟩ => show win0_3.index t 0 * win0_3.size 0 ≤ (i 0 : Nat) ∧ (i 0 : Nat) < win0_3.index t 0 * win0_3.size 0 + win0_3.xsize (grid0.coords t) 0
                omega
    | ⟨1, _⟩ => show win0_3.index t 1 * win0_3.size 1 ≤ (i 1 : Nat) ∧ (i 1 : Nat) < win0_3.index t 1 * win0_3.size 1 + win0_3.xsize (grid0.coords t) 1
                omega

/-- Every row is in some point's block. -/
theorem cover (i : S4096x1.Idx) : ∃ t : Fin cfg0.N, (cfg0.win 3).flush t = true ∧ i ∈ ((cfg0.win 3).blk t).view.set := by
  have h0 : (i 0 : Nat) < 4096 := (i 0).isLt
  have hN : cfg0.N = 16 := N_0
  have ht : (i 0 : Nat) / 256 < cfg0.N := by omega
  refine ⟨⟨(i 0 : Nat) / 256, ht⟩, flush0_3 _, ?_⟩
  rw [mem_blk]
  dsimp only
  omega

/-- The result array when the region is left. -/
theorem final (c : Dev nD) : Value.reg_main_v2 m c = W m c :=
  (dats m 0 c).arrAt_eq_of_cover 3 (W m c) (fun t _ => flushed_eq m c t) cover

/-- The kernel's result at a row. -/
theorem result_at (c : Dev nD) (i : Fin 4096) :
    shapeCast S4096 (Value.reg_main_v2 m c) shapeCasts_S4096x1_S4096 (ix1 i) = lossAt (dist m c) (pids m c) i := by
  rw [final]
  exact shapeCast_apply _ _ _ (ix2 i 0) (by
    rw [Shape.rowMajor_val_one, Shape.rowMajor_val_two]
    show i.val * 1 + 0 = i.val
    omega)

end Cert.Proof.KernelValue

end
-- ==== Proof.lean ====
module

public import proofs.«01_k».proof.Proof.Gen.KernelIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ties_agree
public import proofs.«01_k».proof.Proof.RefRun
public import proofs.«01_k».proof.Proof.KernelValue
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The kernel runs, leaves its arguments unchanged and its counters at zero. -/
theorem frame_kernel : Cert.quiescent_Kernel (hKernel := Cert.Kernel.Gen.facts) := fun m ρ _ => Cert.Kernel.Gen.frame m ρ

/-- So does the kernel over the extended reals. -/
theorem frame_ideal : Cert.quiescent_KernelIdeal (hKernelIdeal := Cert.KernelIdeal.Gen.facts) :=
  fun m ρ _ => Cert.KernelIdeal.Gen.frame m ρ

/-- And where the ties agree. -/
theorem frame_ideal_pre : Cert.quiescent_KernelIdeal_pre_ties_agree (hKernelIdeal := Cert.KernelIdeal.Gen.facts)
    (hPre_ties_agree := Cert.Pre_ties_agree.Gen.facts) := fun m ρ _ => Cert.KernelIdeal.Gen.frame m ρ

/-- The reference runs, leaves its arguments unchanged and its counters at zero. -/
theorem frame_ref : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩,
      Idealize.ShloMosaic.sem_eq_zero_of_no_sems (by decide) r.2⟩) (Ref.run (F := Ideal) m ρ)

/-- And where the ties agree. -/
theorem frame_ref_pre : Cert.quiescent_ReferenceIdeal_pre_ties_agree (hReferenceIdeal := Cert.ReferenceIdeal.Gen.facts)
    (hPre_ties_agree := Cert.Pre_ties_agree.Gen.facts) := fun m ρ _ => frame_ref m ρ trivial

/-- The reference's result is the kernel's, from equal arguments whose ties agree. -/
theorem result_eq (m : (ℓ : Loc Cert.KernelIdeal.nD Cert.KernelIdeal.τ Cert.KernelIdeal.sig) → Buf (Elt Ideal) ℓ)
    (c : Dev Cert.KernelIdeal.nD)
    (h : Cert.Pre_ties_agree.fn (F := Ideal) (KernelValue.dist m c) (KernelValue.pids m c) = fun _ => 1#1) :
    Spec.out (F := Ideal) (KernelValue.dist m c) (KernelValue.pids m c)
      = shapeCast Cert.KernelIdeal.S4096 (Cert.KernelIdeal.Value.reg_main_v2 m c) Cert.KernelIdeal.Gen.shapeCasts_S4096x1_S4096 := by
  funext j
  rw [eq_ix1 j]
  exact (RefValue.out_at _ _ (j 0) (congrFun h _)).trans (KernelValue.result_at m c (j 0)).symm

/-- Kernel and reference compute the same results over the extended reals where the ties agree. -/
theorem algebraic : Cert.algebraic_KernelIdeal_ReferenceIdeal_pre_ties_agree (hKernelIdeal := Cert.KernelIdeal.Gen.facts)
    (hReferenceIdeal := Cert.ReferenceIdeal.Gen.facts) (hPre_ties_agree := Cert.Pre_ties_agree.Gen.facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Ref.run (F := Ideal) m' ρ')
  rw [(hagree c).1, (hagree c).2]
  exact result_eq m c (hpre c)

/-- Everything claimed. -/
theorem claim : Cert.Claim := ⟨Cert.Kernel.Gen.facts, Cert.KernelIdeal.Gen.facts, Cert.ReferenceIdeal.Gen.facts, Cert.Pre_ties_agree.Gen.facts,
  frame_kernel, frame_ideal, frame_ideal_pre, frame_ref, frame_ref_pre, trivial, algebraic⟩

end Cert.Proof

end
